-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_pooled_batch [hPre_pooled_batch : Cert.Pre_pooled_batch.Facts] (m : (ℓ : Loc Cert.KernelIdeal.nD Cert.KernelIdeal.τ Cert.KernelIdeal.sig) → Buf (Elt Ideal) ℓ) : Prop :=
  ∀ c : Dev Cert.KernelIdeal.nD,
    (Cert.Pre_pooled_batch.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_pooled_batch [hPre_pooled_batch : Cert.Pre_pooled_batch.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_pooled_batch.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_pooled_batch [hKernelIdeal : Cert.KernelIdeal.Facts] [hPre_pooled_batch : Cert.Pre_pooled_batch.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_pooled_batch m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_pooled_batch [hReferenceIdeal : Cert.ReferenceIdeal.Facts] [hPre_pooled_batch : Cert.Pre_pooled_batch.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_pooled_batch m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  IdealRules.named_const.Statement Cert.KernelIdeal.κ "eps2" .f32 0x229ABE15#32 ((5316911940649 / 1267650600228229401496703205376 : ℝ) : EReal)

def algebraic_KernelIdeal_ReferenceIdeal_pre_pooled_batch [hKernelIdeal : Cert.KernelIdeal.Facts] [hReferenceIdeal : Cert.ReferenceIdeal.Facts] [hPre_pooled_batch : Cert.Pre_pooled_batch.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_pooled_batch m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v39) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_pooled_batch : Cert.Pre_pooled_batch.Facts),
    quiescent_Kernel (hKernel := hKernel)
    ∧ quiescent_KernelIdeal (hKernelIdeal := hKernelIdeal)
    ∧ quiescent_KernelIdeal_pre_pooled_batch (hKernelIdeal := hKernelIdeal) (hPre_pooled_batch := hPre_pooled_batch)
    ∧ quiescent_ReferenceIdeal (hReferenceIdeal := hReferenceIdeal)
    ∧ quiescent_ReferenceIdeal_pre_pooled_batch (hReferenceIdeal := hReferenceIdeal) (hPre_pooled_batch := hPre_pooled_batch)
    ∧ preserves_Kernel_KernelIdeal
    ∧ algebraic_KernelIdeal_ReferenceIdeal_pre_pooled_batch (hKernelIdeal := hKernelIdeal) (hReferenceIdeal := hReferenceIdeal) (hPre_pooled_batch := hPre_pooled_batch)
-- ==== Pre_pooled_batch.lean ====
abbrev S32768x1024 : Shape := ⟨2, ![32768, 1024]⟩
abbrev S16 : Shape := ⟨1, ![16]⟩
abbrev S_ : Shape := ⟨0, ![]⟩

class Facts : Prop where
  bcast_S_S16 : S_.BroadcastsInDim S16 (![] : Fin 0 → Fin S16.rank)
  reducesTo_S16_S_d0 : S16.ReducesTo [0] S_
  h_S_ : 0 < S_.numel
  bcast_S_S32768x1024 : S_.BroadcastsInDim S32768x1024 (![] : Fin 0 → Fin S32768x1024.rank)
  reducesTo_S32768x1024_S_d0_1 : S32768x1024.ReducesTo [0, 1] S_

variable [Facts]

def fn {F : FTy → Type} [FloatOps F] (main_arg0 : FVec F S32768x1024 .f32) (main_arg1 : IVec S16 32) : IVec S_ 1 :=
  let main_c : IVec S_ 32 := constantI S_ 32 2048#32
  let main_v0 : IVec S16 32 := broadcastInDim S16 ![] bcast_S_S16 main_c
  let main_v1 : IVec S16 1 := cmpi .eq main_arg1 main_v0
  let main_c_0 : IVec S_ 1 := constantI S_ 1 1#1
  let main_v2 : IVec S_ 1 := (fun x v => Host.reduce IntOp.andi x v reducesTo_S16_S_d0 h_S_) main_v1 main_c_0
  let main_v3 : FVec F S32768x1024 .f32 := Host.absf main_arg0
  let main_cst : FVec F S_ .f32 := constant S_ .f32 0x7F800000#32
  let main_v4 : FVec F S32768x1024 .f32 := broadcastInDim S32768x1024 ![] bcast_S_S32768x1024 main_cst
  let main_v5 : IVec S32768x1024 1 := cmpf .olt main_v3 main_v4
  let main_c_1 : IVec S_ 1 := constantI S_ 1 1#1
  let main_v6 : IVec S_ 1 := (fun x v => Host.reduce IntOp.andi x v reducesTo_S32768x1024_S_d0_1 h_S_) main_v5 main_c_1
  let main_v7 : IVec S_ 1 := andi main_v2 main_v6
  main_v7
-- ==== Kernel.lean ====
abbrev S32768x1024 : Shape := ⟨2, ![32768, 1024]⟩
abbrev S16 : Shape := ⟨1, ![16]⟩
abbrev S16x2x1024 : Shape := ⟨3, ![16, 2, 1024]⟩
abbrev S32x1024 : Shape := ⟨2, ![32, 1024]⟩
abbrev S1024 : Shape := ⟨1, ![1024]⟩
abbrev S_ : Shape := ⟨0, ![]⟩
abbrev S1x16 : Shape := ⟨2, ![1, 16]⟩
abbrev S1x1x1024 : Shape := ⟨3, ![1, 1, 1024]⟩
abbrev S16x1024 : Shape := ⟨2, ![16, 1024]⟩
abbrev S16x1x1024 : Shape := ⟨3, ![16, 1, 1024]⟩
abbrev S16x1 : Shape := ⟨2, ![16, 1]⟩

abbrev nBuf : Table → Nat
  | .hbm => 4
  | .local .tc .vmem => 2
  | .local .scVector .vmem => 3
  | _ => 0

abbrev bufTy : (tb : Table) → Fin (nBuf tb) → BufTy
  | .hbm, ⟨0, _⟩ => ⟨S32768x1024, .f32⟩
  | .hbm, ⟨1, _⟩ => ⟨S16, .i32⟩
  | .hbm, ⟨2, _⟩ => ⟨S16x2x1024, .f32⟩
  | .hbm, ⟨3, _⟩ => ⟨S16x1024, .f32⟩
  | .local .tc .vmem, ⟨0, _⟩ => ⟨S16x2x1024, .f32⟩
  | .local .tc .vmem, ⟨1, _⟩ => ⟨S16x1024, .f32⟩
  | .local .scVector .vmem, ⟨0, _⟩ => ⟨S32x1024, .f32⟩
  | .local .scVector .vmem, ⟨1, _⟩ => ⟨S32x1024, .f32⟩
  | .local .scVector .vmem, ⟨2, _⟩ => ⟨S1024, .f32⟩
  | _, _ => ⟨S32768x1024, .f32⟩

abbrev bufScoped : (cs : CoreSpace) → Fin (nBuf (.local .tc cs)) → Bool
  | .vmem, ⟨0, _⟩ => true
  | .vmem, ⟨1, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 5 → Bool
  | ⟨0, _⟩ => false
  | ⟨1, _⟩ => false
  | ⟨2, _⟩ => false
  | ⟨3, _⟩ => true
  | ⟨4, _⟩ => true
  | _ => false

abbrev sig : RefSig :=
  ofTables nBuf rfl bufTy 4 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_arg0_scv : Ref sig .scVector := ⟨.hbm, 0, rfl⟩
abbrev main_v0_scv : Ref sig .scVector := ⟨.hbm, 2, rfl⟩
abbrev cc1_stg0_0 : Ref sig .tc := ⟨.vmem, 0, rfl⟩
abbrev cc1_stg1_0 : Ref sig .tc := ⟨.vmem, 1, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc1_sem0_0 : DmaSem sig := 3
abbrev cc1_sem1_0 : DmaSem sig := 4
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) (c0_i32_10 : BitVec 32) : Fin 2 → Nat :=
  let arg0 : BitVec 32 := BitVec.ofNat 32 (i 0).val
  let c8_i32 : BitVec 32 := 8#32
  let v0 : BitVec 32 := Scalar.muli arg0 c8_i32
  let arg1 : BitVec 32 := BitVec.ofNat 32 (i 1).val
  let c0_i32 : BitVec 32 := 0#32
  let v2 : BitVec 1 := Scalar.cmpi .sgt arg1 c0_i32
  let v3 : BitVec 32 := Scalar.extui v2
  let c0_i32_0 : BitVec 32 := 0#32
  let v4 : BitVec 1 := Scalar.cmpi .slt arg1 c0_i32_0
  let v5 : BitVec 32 := Scalar.extui v4
  let v6 : BitVec 32 := Scalar.subi v3 v5
  let c2_i32 : BitVec 32 := 2#32
  let c0_i32_1 : BitVec 32 := 0#32
  let v7 : BitVec 1 := Scalar.cmpi .sgt c2_i32 c0_i32_1
  let v8 : BitVec 32 := Scalar.extui v7
  let c0_i32_2 : BitVec 32 := 0#32
  let v9 : BitVec 1 := Scalar.cmpi .slt c2_i32 c0_i32_2
  let v10 : BitVec 32 := Scalar.extui v9
  let v11 : BitVec 32 := Scalar.subi v8 v10
  let v12 : BitVec 1 := Scalar.cmpi .ne v6 v11
  let v13 : BitVec 32 := Scalar.remsi arg1 c2_i32
  let c0_i32_3 : BitVec 32 := 0#32
  let v14 : BitVec 1 := Scalar.cmpi .ne v13 c0_i32_3
  let v15 : BitVec 1 := Scalar.andi v12 v14
  let v1 : BitVec 32 := Scalar.divsi arg1 c2_i32
  let c1_i32 : BitVec 32 := 1#32
  let v16 : BitVec 32 := Scalar.subi v1 c1_i32
  let v17 : BitVec 32 := Scalar.select v15 v16 v1
  let v18 : BitVec 32 := Scalar.addi v0 v17
  let c2048_i32 : BitVec 32 := 2048#32
  let v29 : BitVec 32 := Scalar.muli v18 c2048_i32
  let c2_i32_4 : BitVec 32 := 2#32
  let c0_i32_5 : BitVec 32 := 0#32
  let v19 : BitVec 1 := Scalar.cmpi .eq c2_i32_4 c0_i32_5
  let c1_i32_6 : BitVec 32 := 1#32
  let v20 : BitVec 32 := Scalar.select v19 c1_i32_6 c2_i32_4
  let v21 : BitVec 32 := Scalar.remsi arg1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c1024_i32 : BitVec 32 := 1024#32
  let v30 : BitVec 32 := Scalar.muli v28 c1024_i32
  let v31 : BitVec 32 := Scalar.addi v29 v30
  let v225 : BitVec 32 := Scalar.addi v31 c0_i32_10
  let c0_i32_11 : BitVec 32 := 0#32
  ![v225.toNat, 0]
@[reducible] def k0_t1_loop : Scf.Loop 32 :=
  let c0_i32_16 : BitVec 32 := 0#32
  let c16_i32 : BitVec 32 := 16#32
  let v231 : BitVec 32 := Scalar.addi c0_i32_16 c16_i32
  let c1_i32_17 : BitVec 32 := 1#32
  ⟨c0_i32_16, v231, c1_i32_17⟩
def k0_off2 (i : grid0.Coords) (k0_t1 : Fin k0_t1_loop.trips) (c0_i32_20 : BitVec 32) : Fin 2 → Nat :=
  let arg0 : BitVec 32 := BitVec.ofNat 32 (i 0).val
  let c8_i32 : BitVec 32 := 8#32
  let v0 : BitVec 32 := Scalar.muli arg0 c8_i32
  let arg1 : BitVec 32 := BitVec.ofNat 32 (i 1).val
  let c0_i32 : BitVec 32 := 0#32
  let v2 : BitVec 1 := Scalar.cmpi .sgt arg1 c0_i32
  let v3 : BitVec 32 := Scalar.extui v2
  let c0_i32_0 : BitVec 32 := 0#32
  let v4 : BitVec 1 := Scalar.cmpi .slt arg1 c0_i32_0
  let v5 : BitVec 32 := Scalar.extui v4
  let v6 : BitVec 32 := Scalar.subi v3 v5
  let c2_i32 : BitVec 32 := 2#32
  let c0_i32_1 : BitVec 32 := 0#32
  let v7 : BitVec 1 := Scalar.cmpi .sgt c2_i32 c0_i32_1
  let v8 : BitVec 32 := Scalar.extui v7
  let c0_i32_2 : BitVec 32 := 0#32
  let v9 : BitVec 1 := Scalar.cmpi .slt c2_i32 c0_i32_2
  let v10 : BitVec 32 := Scalar.extui v9
  let v11 : BitVec 32 := Scalar.subi v8 v10
  let v12 : BitVec 1 := Scalar.cmpi .ne v6 v11
  let v13 : BitVec 32 := Scalar.remsi arg1 c2_i32
  let c0_i32_3 : BitVec 32 := 0#32
  let v14 : BitVec 1 := Scalar.cmpi .ne v13 c0_i32_3
  let v15 : BitVec 1 := Scalar.andi v12 v14
  let v1 : BitVec 32 := Scalar.divsi arg1 c2_i32
  let c1_i32 : BitVec 32 := 1#32
  let v16 : BitVec 32 := Scalar.subi v1 c1_i32
  let v17 : BitVec 32 := Scalar.select v15 v16 v1
  let v18 : BitVec 32 := Scalar.addi v0 v17
  let c2048_i32 : BitVec 32 := 2048#32
  let v29 : BitVec 32 := Scalar.muli v18 c2048_i32
  let c2_i32_4 : BitVec 32 := 2#32
  let c0_i32_5 : BitVec 32 := 0#32
  let v19 : BitVec 1 := Scalar.cmpi .eq c2_i32_4 c0_i32_5
  let c1_i32_6 : BitVec 32 := 1#32
  let v20 : BitVec 32 := Scalar.select v19 c1_i32_6 c2_i32_4
  let v21 : BitVec 32 := Scalar.remsi arg1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c1024_i32 : BitVec 32 := 1024#32
  let v30 : BitVec 32 := Scalar.muli v28 c1024_i32
  let v31 : BitVec 32 := Scalar.addi v29 v30
  let c2_i32_19 : BitVec 32 := 2#32
  let c0_i32_16 : BitVec 32 := 0#32
  let c1_i32_17 : BitVec 32 := 1#32
  let arg9 : BitVec 32 := Scf.iv c0_i32_16 c1_i32_17 k0_t1
  let v232 : BitVec 32 := Scalar.muli c2_i32_19 arg9
  let v233 : BitVec 32 := Scalar.addi v232 c0_i32_20
  let c32_i32_21 : BitVec 32 := 32#32
  let v234 : BitVec 32 := Scalar.muli v233 c32_i32_21
  let v235 : BitVec 32 := Scalar.addi v31 v234
  let c0_i32_22 : BitVec 32 := 0#32
  ![v235.toNat, 0]
@[reducible] def k0_t2_loop : Scf.Loop 32 :=
  let c0_i32_25 : BitVec 32 := 0#32
  let c8_i32_26 : BitVec 32 := 8#32
  let v238 : BitVec 32 := Scalar.addi c0_i32_25 c8_i32_26
  let c1_i32_27 : BitVec 32 := 1#32
  ⟨c0_i32_25, v238, c1_i32_27⟩
def k0_off3 (k0_t2 : Fin k0_t2_loop.trips) (c0_i32_46 : BitVec 32) : Fin 2 → Nat :=
  let c0_i32_48 : BitVec 32 := 0#32
  let v257 : Index := Scalar.indexCast c0_i32_48
  let c0_i32_25 : BitVec 32 := 0#32
  let c1_i32_27 : BitVec 32 := 1#32
  let arg10 : BitVec 32 := Scf.iv c0_i32_25 c1_i32_27 k0_t2
  let c8_i32_45 : BitVec 32 := 8#32
  let v254 : BitVec 32 := Scalar.muli arg10 c8_i32_45
  let v255 : BitVec 32 := Scalar.addi v254 c0_i32_46
  let c16_i32_47 : BitVec 32 := 16#32
  let v256 : BitVec 32 := Scalar.muli v255 c16_i32_47
  let v258 : Index := Scalar.indexCast v256
  ![0, v258.toNat]
def k0_off4 (k0_t2 : Fin k0_t2_loop.trips) (c0_i32_46 : BitVec 32) : Fin 2 → Nat :=
  let c1_i32_49 : BitVec 32 := 1#32
  let v261 : Index := Scalar.indexCast c1_i32_49
  let c0_i32_25 : BitVec 32 := 0#32
  let c1_i32_27 : BitVec 32 := 1#32
  let arg10 : BitVec 32 := Scf.iv c0_i32_25 c1_i32_27 k0_t2
  let c8_i32_45 : BitVec 32 := 8#32
  let v254 : BitVec 32 := Scalar.muli arg10 c8_i32_45
  let v255 : BitVec 32 := Scalar.addi v254 c0_i32_46
  let c16_i32_47 : BitVec 32 := 16#32
  let v256 : BitVec 32 := Scalar.muli v255 c16_i32_47
  let v262 : Index := Scalar.indexCast v256
  ![1, v262.toNat]
def k0_off5 (k0_t2 : Fin k0_t2_loop.trips) (c0_i32_46 : BitVec 32) : Fin 2 → Nat :=
  let c2_i32_50 : BitVec 32 := 2#32
  let v265 : Index := Scalar.indexCast c2_i32_50
  let c0_i32_25 : BitVec 32 := 0#32
  let c1_i32_27 : BitVec 32 := 1#32
  let arg10 : BitVec 32 := Scf.iv c0_i32_25 c1_i32_27 k0_t2
  let c8_i32_45 : BitVec 32 := 8#32
  let v254 : BitVec 32 := Scalar.muli arg10 c8_i32_45
  let v255 : BitVec 32 := Scalar.addi v254 c0_i32_46
  let c16_i32_47 : BitVec 32 := 16#32
  let v256 : BitVec 32 := Scalar.muli v255 c16_i32_47
  let v266 : Index := Scalar.indexCast v256
  ![2, v266.toNat]
def k0_off6 (k0_t2 : Fin k0_t2_loop.trips) (c0_i32_46 : BitVec 32) : Fin 2 → Nat :=
  let c3_i32 : BitVec 32 := 3#32
  let v269 : Index := Scalar.indexCast c3_i32
  let c0_i32_25 : BitVec 32 := 0#32
  let c1_i32_27 : BitVec 32 := 1#32
  let arg10 : BitVec 32 := Scf.iv c0_i32_25 c1_i32_27 k0_t2
  let c8_i32_45 : BitVec 32 := 8#32
  let v254 : BitVec 32 := Scalar.muli arg10 c8_i32_45
  let v255 : BitVec 32 := Scalar.addi v254 c0_i32_46
  let c16_i32_47 : BitVec 32 := 16#32
  let v256 : BitVec 32 := Scalar.muli v255 c16_i32_47
  let v270 : Index := Scalar.indexCast v256
  ![3, v270.toNat]
def k0_off7 (k0_t2 : Fin k0_t2_loop.trips) (c0_i32_46 : BitVec 32) : Fin 2 → Nat :=
  let c4_i32 : BitVec 32 := 4#32
  let v273 : Index := Scalar.indexCast c4_i32
  let c0_i32_25 : BitVec 32 := 0#32
  let c1_i32_27 : BitVec 32 := 1#32
  let arg10 : BitVec 32 := Scf.iv c0_i32_25 c1_i32_27 k0_t2
  let c8_i32_45 : BitVec 32 := 8#32
  let v254 : BitVec 32 := Scalar.muli arg10 c8_i32_45
  let v255 : BitVec 32 := Scalar.addi v254 c0_i32_46
  let c16_i32_47 : BitVec 32 := 16#32
  let v256 : BitVec 32 := Scalar.muli v255 c16_i32_47
  let v274 : Index := Scalar.indexCast v256
  ![4, v274.toNat]
def k0_off8 (k0_t2 : Fin k0_t2_loop.trips) (c0_i32_46 : BitVec 32) : Fin 2 → Nat :=
  let c5_i32 : BitVec 32 := 5#32
  let v277 : Index := Scalar.indexCast c5_i32
  let c0_i32_25 : BitVec 32 := 0#32
  let c1_i32_27 : BitVec 32 := 1#32
  let arg10 : BitVec 32 := Scf.iv c0_i32_25 c1_i32_27 k0_t2
  let c8_i32_45 : BitVec 32 := 8#32
  let v254 : BitVec 32 := Scalar.muli arg10 c8_i32_45
  let v255 : BitVec 32 := Scalar.addi v254 c0_i32_46
  let c16_i32_47 : BitVec 32 := 16#32
  let v256 : BitVec 32 := Scalar.muli v255 c16_i32_47
  let v278 : Index := Scalar.indexCast v256
  ![5, v278.toNat]
def k0_off9 (k0_t2 : Fin k0_t2_loop.trips) (c0_i32_46 : BitVec 32) : Fin 2 → Nat :=
  let c6_i32 : BitVec 32 := 6#32
  let v281 : Index := Scalar.indexCast c6_i32
  let c0_i32_25 : BitVec 32 := 0#32
  let c1_i32_27 : BitVec 32 := 1#32
  let arg10 : BitVec 32 := Scf.iv c0_i32_25 c1_i32_27 k0_t2
  let c8_i32_45 : BitVec 32 := 8#32
  let v254 : BitVec 32 := Scalar.muli arg10 c8_i32_45
  let v255 : BitVec 32 := Scalar.addi v254 c0_i32_46
  let c16_i32_47 : BitVec 32 := 16#32
  let v256 : BitVec 32 := Scalar.muli v255 c16_i32_47
  let v282 : Index := Scalar.indexCast v256
  ![6, v282.toNat]
def k0_off10 (k0_t2 : Fin k0_t2_loop.trips) (c0_i32_46 : BitVec 32) : Fin 2 → Nat :=
  let c7_i32 : BitVec 32 := 7#32
  let v285 : Index := Scalar.indexCast c7_i32
  let c0_i32_25 : BitVec 32 := 0#32
  let c1_i32_27 : BitVec 32 := 1#32
  let arg10 : BitVec 32 := Scf.iv c0_i32_25 c1_i32_27 k0_t2
  let c8_i32_45 : BitVec 32 := 8#32
  let v254 : BitVec 32 := Scalar.muli arg10 c8_i32_45
  let v255 : BitVec 32 := Scalar.addi v254 c0_i32_46
  let c16_i32_47 : BitVec 32 := 16#32
  let v256 : BitVec 32 := Scalar.muli v255 c16_i32_47
  let v286 : Index := Scalar.indexCast v256
  ![7, v286.toNat]
def k0_off11 (k0_t2 : Fin k0_t2_loop.trips) (c0_i32_46 : BitVec 32) : Fin 2 → Nat :=
  let c8_i32_51 : BitVec 32 := 8#32
  let v289 : Index := Scalar.indexCast c8_i32_51
  let c0_i32_25 : BitVec 32 := 0#32
  let c1_i32_27 : BitVec 32 := 1#32
  let arg10 : BitVec 32 := Scf.iv c0_i32_25 c1_i32_27 k0_t2
  let c8_i32_45 : BitVec 32 := 8#32
  let v254 : BitVec 32 := Scalar.muli arg10 c8_i32_45
  let v255 : BitVec 32 := Scalar.addi v254 c0_i32_46
  let c16_i32_47 : BitVec 32 := 16#32
  let v256 : BitVec 32 := Scalar.muli v255 c16_i32_47
  let v290 : Index := Scalar.indexCast v256
  ![8, v290.toNat]
def k0_off12 (k0_t2 : Fin k0_t2_loop.trips) (c0_i32_46 : BitVec 32) : Fin 2 → Nat :=
  let c9_i32 : BitVec 32 := 9#32
  let v293 : Index := Scalar.indexCast c9_i32
  let c0_i32_25 : BitVec 32 := 0#32
  let c1_i32_27 : BitVec 32 := 1#32
  let arg10 : BitVec 32 := Scf.iv c0_i32_25 c1_i32_27 k0_t2
  let c8_i32_45 : BitVec 32 := 8#32
  let v254 : BitVec 32 := Scalar.muli arg10 c8_i32_45
  let v255 : BitVec 32 := Scalar.addi v254 c0_i32_46
  let c16_i32_47 : BitVec 32 := 16#32
  let v256 : BitVec 32 := Scalar.muli v255 c16_i32_47
  let v294 : Index := Scalar.indexCast v256
  ![9, v294.toNat]
def k0_off13 (k0_t2 : Fin k0_t2_loop.trips) (c0_i32_46 : BitVec 32) : Fin 2 → Nat :=
  let c10_i32 : BitVec 32 := 10#32
  let v297 : Index := Scalar.indexCast c10_i32
  let c0_i32_25 : BitVec 32 := 0#32
  let c1_i32_27 : BitVec 32 := 1#32
  let arg10 : BitVec 32 := Scf.iv c0_i32_25 c1_i32_27 k0_t2
  let c8_i32_45 : BitVec 32 := 8#32
  let v254 : BitVec 32 := Scalar.muli arg10 c8_i32_45
  let v255 : BitVec 32 := Scalar.addi v254 c0_i32_46
  let c16_i32_47 : BitVec 32 := 16#32
  let v256 : BitVec 32 := Scalar.muli v255 c16_i32_47
  let v298 : Index := Scalar.indexCast v256
  ![10, v298.toNat]
def k0_off14 (k0_t2 : Fin k0_t2_loop.trips) (c0_i32_46 : BitVec 32) : Fin 2 → Nat :=
  let c11_i32 : BitVec 32 := 11#32
  let v301 : Index := Scalar.indexCast c11_i32
  let c0_i32_25 : BitVec 32 := 0#32
  let c1_i32_27 : BitVec 32 := 1#32
  let arg10 : BitVec 32 := Scf.iv c0_i32_25 c1_i32_27 k0_t2
  let c8_i32_45 : BitVec 32 := 8#32
  let v254 : BitVec 32 := Scalar.muli arg10 c8_i32_45
  let v255 : BitVec 32 := Scalar.addi v254 c0_i32_46
  let c16_i32_47 : BitVec 32 := 16#32
  let v256 : BitVec 32 := Scalar.muli v255 c16_i32_47
  let v302 : Index := Scalar.indexCast v256
  ![11, v302.toNat]
def k0_off15 (k0_t2 : Fin k0_t2_loop.trips) (c0_i32_46 : BitVec 32) : Fin 2 → Nat :=
  let c12_i32 : BitVec 32 := 12#32
  let v305 : Index := Scalar.indexCast c12_i32
  let c0_i32_25 : BitVec 32 := 0#32
  let c1_i32_27 : BitVec 32 := 1#32
  let arg10 : BitVec 32 := Scf.iv c0_i32_25 c1_i32_27 k0_t2
  let c8_i32_45 : BitVec 32 := 8#32
  let v254 : BitVec 32 := Scalar.muli arg10 c8_i32_45
  let v255 : BitVec 32 := Scalar.addi v254 c0_i32_46
  let c16_i32_47 : BitVec 32 := 16#32
  let v256 : BitVec 32 := Scalar.muli v255 c16_i32_47
  let v306 : Index := Scalar.indexCast v256
  ![12, v306.toNat]
def k0_off16 (k0_t2 : Fin k0_t2_loop.trips) (c0_i32_46 : BitVec 32) : Fin 2 → Nat :=
  let c13_i32 : BitVec 32 := 13#32
  let v309 : Index := Scalar.indexCast c13_i32
  let c0_i32_25 : BitVec 32 := 0#32
  let c1_i32_27 : BitVec 32 := 1#32
  let arg10 : BitVec 32 := Scf.iv c0_i32_25 c1_i32_27 k0_t2
  let c8_i32_45 : BitVec 32 := 8#32
  let v254 : BitVec 32 := Scalar.muli arg10 c8_i32_45
  let v255 : BitVec 32 := Scalar.addi v254 c0_i32_46
  let c16_i32_47 : BitVec 32 := 16#32
  let v256 : BitVec 32 := Scalar.muli v255 c16_i32_47
  let v310 : Index := Scalar.indexCast v256
  ![13, v310.toNat]
def k0_off17 (k0_t2 : Fin k0_t2_loop.trips) (c0_i32_46 : BitVec 32) : Fin 2 → Nat :=
  let c14_i32 : BitVec 32 := 14#32
  let v313 : Index := Scalar.indexCast c14_i32
  let c0_i32_25 : BitVec 32 := 0#32
  let c1_i32_27 : BitVec 32 := 1#32
  let arg10 : BitVec 32 := Scf.iv c0_i32_25 c1_i32_27 k0_t2
  let c8_i32_45 : BitVec 32 := 8#32
  let v254 : BitVec 32 := Scalar.muli arg10 c8_i32_45
  let v255 : BitVec 32 := Scalar.addi v254 c0_i32_46
  let c16_i32_47 : BitVec 32 := 16#32
  let v256 : BitVec 32 := Scalar.muli v255 c16_i32_47
  let v314 : Index := Scalar.indexCast v256
  ![14, v314.toNat]
def k0_off18 (k0_t2 : Fin k0_t2_loop.trips) (c0_i32_46 : BitVec 32) : Fin 2 → Nat :=
  let c15_i32 : BitVec 32 := 15#32
  let v317 : Index := Scalar.indexCast c15_i32
  let c0_i32_25 : BitVec 32 := 0#32
  let c1_i32_27 : BitVec 32 := 1#32
  let arg10 : BitVec 32 := Scf.iv c0_i32_25 c1_i32_27 k0_t2
  let c8_i32_45 : BitVec 32 := 8#32
  let v254 : BitVec 32 := Scalar.muli arg10 c8_i32_45
  let v255 : BitVec 32 := Scalar.addi v254 c0_i32_46
  let c16_i32_47 : BitVec 32 := 16#32
  let v256 : BitVec 32 := Scalar.muli v255 c16_i32_47
  let v318 : Index := Scalar.indexCast v256
  ![15, v318.toNat]
def k0_off19 (k0_t2 : Fin k0_t2_loop.trips) (c0_i32_46 : BitVec 32) : Fin 2 → Nat :=
  let c16_i32_52 : BitVec 32 := 16#32
  let v321 : Index := Scalar.indexCast c16_i32_52
  let c0_i32_25 : BitVec 32 := 0#32
  let c1_i32_27 : BitVec 32 := 1#32
  let arg10 : BitVec 32 := Scf.iv c0_i32_25 c1_i32_27 k0_t2
  let c8_i32_45 : BitVec 32 := 8#32
  let v254 : BitVec 32 := Scalar.muli arg10 c8_i32_45
  let v255 : BitVec 32 := Scalar.addi v254 c0_i32_46
  let c16_i32_47 : BitVec 32 := 16#32
  let v256 : BitVec 32 := Scalar.muli v255 c16_i32_47
  let v322 : Index := Scalar.indexCast v256
  ![16, v322.toNat]
def k0_off20 (k0_t2 : Fin k0_t2_loop.trips) (c0_i32_46 : BitVec 32) : Fin 2 → Nat :=
  let c17_i32 : BitVec 32 := 17#32
  let v325 : Index := Scalar.indexCast c17_i32
  let c0_i32_25 : BitVec 32 := 0#32
  let c1_i32_27 : BitVec 32 := 1#32
  let arg10 : BitVec 32 := Scf.iv c0_i32_25 c1_i32_27 k0_t2
  let c8_i32_45 : BitVec 32 := 8#32
  let v254 : BitVec 32 := Scalar.muli arg10 c8_i32_45
  let v255 : BitVec 32 := Scalar.addi v254 c0_i32_46
  let c16_i32_47 : BitVec 32 := 16#32
  let v256 : BitVec 32 := Scalar.muli v255 c16_i32_47
  let v326 : Index := Scalar.indexCast v256
  ![17, v326.toNat]
def k0_off21 (k0_t2 : Fin k0_t2_loop.trips) (c0_i32_46 : BitVec 32) : Fin 2 → Nat :=
  let c18_i32 : BitVec 32 := 18#32
  let v329 : Index := Scalar.indexCast c18_i32
  let c0_i32_25 : BitVec 32 := 0#32
  let c1_i32_27 : BitVec 32 := 1#32
  let arg10 : BitVec 32 := Scf.iv c0_i32_25 c1_i32_27 k0_t2
  let c8_i32_45 : BitVec 32 := 8#32
  let v254 : BitVec 32 := Scalar.muli arg10 c8_i32_45
  let v255 : BitVec 32 := Scalar.addi v254 c0_i32_46
  let c16_i32_47 : BitVec 32 := 16#32
  let v256 : BitVec 32 := Scalar.muli v255 c16_i32_47
  let v330 : Index := Scalar.indexCast v256
  ![18, v330.toNat]
def k0_off22 (k0_t2 : Fin k0_t2_loop.trips) (c0_i32_46 : BitVec 32) : Fin 2 → Nat :=
  let c19_i32 : BitVec 32 := 19#32
  let v333 : Index := Scalar.indexCast c19_i32
  let c0_i32_25 : BitVec 32 := 0#32
  let c1_i32_27 : BitVec 32 := 1#32
  let arg10 : BitVec 32 := Scf.iv c0_i32_25 c1_i32_27 k0_t2
  let c8_i32_45 : BitVec 32 := 8#32
  let v254 : BitVec 32 := Scalar.muli arg10 c8_i32_45
  let v255 : BitVec 32 := Scalar.addi v254 c0_i32_46
  let c16_i32_47 : BitVec 32 := 16#32
  let v256 : BitVec 32 := Scalar.muli v255 c16_i32_47
  let v334 : Index := Scalar.indexCast v256
  ![19, v334.toNat]
def k0_off23 (k0_t2 : Fin k0_t2_loop.trips) (c0_i32_46 : BitVec 32) : Fin 2 → Nat :=
  let c20_i32 : BitVec 32 := 20#32
  let v337 : Index := Scalar.indexCast c20_i32
  let c0_i32_25 : BitVec 32 := 0#32
  let c1_i32_27 : BitVec 32 := 1#32
  let arg10 : BitVec 32 := Scf.iv c0_i32_25 c1_i32_27 k0_t2
  let c8_i32_45 : BitVec 32 := 8#32
  let v254 : BitVec 32 := Scalar.muli arg10 c8_i32_45
  let v255 : BitVec 32 := Scalar.addi v254 c0_i32_46
  let c16_i32_47 : BitVec 32 := 16#32
  let v256 : BitVec 32 := Scalar.muli v255 c16_i32_47
  let v338 : Index := Scalar.indexCast v256
  ![20, v338.toNat]
def k0_off24 (k0_t2 : Fin k0_t2_loop.trips) (c0_i32_46 : BitVec 32) : Fin 2 → Nat :=
  let c21_i32 : BitVec 32 := 21#32
  let v341 : Index := Scalar.indexCast c21_i32
  let c0_i32_25 : BitVec 32 := 0#32
  let c1_i32_27 : BitVec 32 := 1#32
  let arg10 : BitVec 32 := Scf.iv c0_i32_25 c1_i32_27 k0_t2
  let c8_i32_45 : BitVec 32 := 8#32
  let v254 : BitVec 32 := Scalar.muli arg10 c8_i32_45
  let v255 : BitVec 32 := Scalar.addi v254 c0_i32_46
  let c16_i32_47 : BitVec 32 := 16#32
  let v256 : BitVec 32 := Scalar.muli v255 c16_i32_47
  let v342 : Index := Scalar.indexCast v256
  ![21, v342.toNat]
def k0_off25 (k0_t2 : Fin k0_t2_loop.trips) (c0_i32_46 : BitVec 32) : Fin 2 → Nat :=
  let c22_i32 : BitVec 32 := 22#32
  let v345 : Index := Scalar.indexCast c22_i32
  let c0_i32_25 : BitVec 32 := 0#32
  let c1_i32_27 : BitVec 32 := 1#32
  let arg10 : BitVec 32 := Scf.iv c0_i32_25 c1_i32_27 k0_t2
  let c8_i32_45 : BitVec 32 := 8#32
  let v254 : BitVec 32 := Scalar.muli arg10 c8_i32_45
  let v255 : BitVec 32 := Scalar.addi v254 c0_i32_46
  let c16_i32_47 : BitVec 32 := 16#32
  let v256 : BitVec 32 := Scalar.muli v255 c16_i32_47
  let v346 : Index := Scalar.indexCast v256
  ![22, v346.toNat]
def k0_off26 (k0_t2 : Fin k0_t2_loop.trips) (c0_i32_46 : BitVec 32) : Fin 2 → Nat :=
  let c23_i32 : BitVec 32 := 23#32
  let v349 : Index := Scalar.indexCast c23_i32
  let c0_i32_25 : BitVec 32 := 0#32
  let c1_i32_27 : BitVec 32 := 1#32
  let arg10 : BitVec 32 := Scf.iv c0_i32_25 c1_i32_27 k0_t2
  let c8_i32_45 : BitVec 32 := 8#32
  let v254 : BitVec 32 := Scalar.muli arg10 c8_i32_45
  let v255 : BitVec 32 := Scalar.addi v254 c0_i32_46
  let c16_i32_47 : BitVec 32 := 16#32
  let v256 : BitVec 32 := Scalar.muli v255 c16_i32_47
  let v350 : Index := Scalar.indexCast v256
  ![23, v350.toNat]
def k0_off27 (k0_t2 : Fin k0_t2_loop.trips) (c0_i32_46 : BitVec 32) : Fin 2 → Nat :=
  let c24_i32 : BitVec 32 := 24#32
  let v353 : Index := Scalar.indexCast c24_i32
  let c0_i32_25 : BitVec 32 := 0#32
  let c1_i32_27 : BitVec 32 := 1#32
  let arg10 : BitVec 32 := Scf.iv c0_i32_25 c1_i32_27 k0_t2
  let c8_i32_45 : BitVec 32 := 8#32
  let v254 : BitVec 32 := Scalar.muli arg10 c8_i32_45
  let v255 : BitVec 32 := Scalar.addi v254 c0_i32_46
  let c16_i32_47 : BitVec 32 := 16#32
  let v256 : BitVec 32 := Scalar.muli v255 c16_i32_47
  let v354 : Index := Scalar.indexCast v256
  ![24, v354.toNat]
def k0_off28 (k0_t2 : Fin k0_t2_loop.trips) (c0_i32_46 : BitVec 32) : Fin 2 → Nat :=
  let c25_i32 : BitVec 32 := 25#32
  let v357 : Index := Scalar.indexCast c25_i32
  let c0_i32_25 : BitVec 32 := 0#32
  let c1_i32_27 : BitVec 32 := 1#32
  let arg10 : BitVec 32 := Scf.iv c0_i32_25 c1_i32_27 k0_t2
  let c8_i32_45 : BitVec 32 := 8#32
  let v254 : BitVec 32 := Scalar.muli arg10 c8_i32_45
  let v255 : BitVec 32 := Scalar.addi v254 c0_i32_46
  let c16_i32_47 : BitVec 32 := 16#32
  let v256 : BitVec 32 := Scalar.muli v255 c16_i32_47
  let v358 : Index := Scalar.indexCast v256
  ![25, v358.toNat]
def k0_off29 (k0_t2 : Fin k0_t2_loop.trips) (c0_i32_46 : BitVec 32) : Fin 2 → Nat :=
  let c26_i32 : BitVec 32 := 26#32
  let v361 : Index := Scalar.indexCast c26_i32
  let c0_i32_25 : BitVec 32 := 0#32
  let c1_i32_27 : BitVec 32 := 1#32
  let arg10 : BitVec 32 := Scf.iv c0_i32_25 c1_i32_27 k0_t2
  let c8_i32_45 : BitVec 32 := 8#32
  let v254 : BitVec 32 := Scalar.muli arg10 c8_i32_45
  let v255 : BitVec 32 := Scalar.addi v254 c0_i32_46
  let c16_i32_47 : BitVec 32 := 16#32
  let v256 : BitVec 32 := Scalar.muli v255 c16_i32_47
  let v362 : Index := Scalar.indexCast v256
  ![26, v362.toNat]
def k0_off30 (k0_t2 : Fin k0_t2_loop.trips) (c0_i32_46 : BitVec 32) : Fin 2 → Nat :=
  let c27_i32 : BitVec 32 := 27#32
  let v365 : Index := Scalar.indexCast c27_i32
  let c0_i32_25 : BitVec 32 := 0#32
  let c1_i32_27 : BitVec 32 := 1#32
  let arg10 : BitVec 32 := Scf.iv c0_i32_25 c1_i32_27 k0_t2
  let c8_i32_45 : BitVec 32 := 8#32
  let v254 : BitVec 32 := Scalar.muli arg10 c8_i32_45
  let v255 : BitVec 32 := Scalar.addi v254 c0_i32_46
  let c16_i32_47 : BitVec 32 := 16#32
  let v256 : BitVec 32 := Scalar.muli v255 c16_i32_47
  let v366 : Index := Scalar.indexCast v256
  ![27, v366.toNat]
def k0_off31 (k0_t2 : Fin k0_t2_loop.trips) (c0_i32_46 : BitVec 32) : Fin 2 → Nat :=
  let c28_i32 : BitVec 32 := 28#32
  let v369 : Index := Scalar.indexCast c28_i32
  let c0_i32_25 : BitVec 32 := 0#32
  let c1_i32_27 : BitVec 32 := 1#32
  let arg10 : BitVec 32 := Scf.iv c0_i32_25 c1_i32_27 k0_t2
  let c8_i32_45 : BitVec 32 := 8#32
  let v254 : BitVec 32 := Scalar.muli arg10 c8_i32_45
  let v255 : BitVec 32 := Scalar.addi v254 c0_i32_46
  let c16_i32_47 : BitVec 32 := 16#32
  let v256 : BitVec 32 := Scalar.muli v255 c16_i32_47
  let v370 : Index := Scalar.indexCast v256
  ![28, v370.toNat]
def k0_off32 (k0_t2 : Fin k0_t2_loop.trips) (c0_i32_46 : BitVec 32) : Fin 2 → Nat :=
  let c29_i32 : BitVec 32 := 29#32
  let v373 : Index := Scalar.indexCast c29_i32
  let c0_i32_25 : BitVec 32 := 0#32
  let c1_i32_27 : BitVec 32 := 1#32
  let arg10 : BitVec 32 := Scf.iv c0_i32_25 c1_i32_27 k0_t2
  let c8_i32_45 : BitVec 32 := 8#32
  let v254 : BitVec 32 := Scalar.muli arg10 c8_i32_45
  let v255 : BitVec 32 := Scalar.addi v254 c0_i32_46
  let c16_i32_47 : BitVec 32 := 16#32
  let v256 : BitVec 32 := Scalar.muli v255 c16_i32_47
  let v374 : Index := Scalar.indexCast v256
  ![29, v374.toNat]
def k0_off33 (k0_t2 : Fin k0_t2_loop.trips) (c0_i32_46 : BitVec 32) : Fin 2 → Nat :=
  let c30_i32 : BitVec 32 := 30#32
  let v377 : Index := Scalar.indexCast c30_i32
  let c0_i32_25 : BitVec 32 := 0#32
  let c1_i32_27 : BitVec 32 := 1#32
  let arg10 : BitVec 32 := Scf.iv c0_i32_25 c1_i32_27 k0_t2
  let c8_i32_45 : BitVec 32 := 8#32
  let v254 : BitVec 32 := Scalar.muli arg10 c8_i32_45
  let v255 : BitVec 32 := Scalar.addi v254 c0_i32_46
  let c16_i32_47 : BitVec 32 := 16#32
  let v256 : BitVec 32 := Scalar.muli v255 c16_i32_47
  let v378 : Index := Scalar.indexCast v256
  ![30, v378.toNat]
def k0_off34 (k0_t2 : Fin k0_t2_loop.trips) (c0_i32_46 : BitVec 32) : Fin 2 → Nat :=
  let c31_i32 : BitVec 32 := 31#32
  let v381 : Index := Scalar.indexCast c31_i32
  let c0_i32_25 : BitVec 32 := 0#32
  let c1_i32_27 : BitVec 32 := 1#32
  let arg10 : BitVec 32 := Scf.iv c0_i32_25 c1_i32_27 k0_t2
  let c8_i32_45 : BitVec 32 := 8#32
  let v254 : BitVec 32 := Scalar.muli arg10 c8_i32_45
  let v255 : BitVec 32 := Scalar.addi v254 c0_i32_46
  let c16_i32_47 : BitVec 32 := 16#32
  let v256 : BitVec 32 := Scalar.muli v255 c16_i32_47
  let v382 : Index := Scalar.indexCast v256
  ![31, v382.toNat]
def k0_off35 (k0_t2 : Fin k0_t2_loop.trips) (c0_i32_46 : BitVec 32) : Fin 1 → Nat :=
  let c0_i32_25 : BitVec 32 := 0#32
  let c1_i32_27 : BitVec 32 := 1#32
  let arg10 : BitVec 32 := Scf.iv c0_i32_25 c1_i32_27 k0_t2
  let c8_i32_45 : BitVec 32 := 8#32
  let v254 : BitVec 32 := Scalar.muli arg10 c8_i32_45
  let v255 : BitVec 32 := Scalar.addi v254 c0_i32_46
  let c16_i32_47 : BitVec 32 := 16#32
  let v256 : BitVec 32 := Scalar.muli v255 c16_i32_47
  let v416 : Index := Scalar.indexCast v256
  ![v416.toNat]
def k0_cond1 (k0_t1 : Fin k0_t1_loop.trips) : BitVec 1 :=
  let c2_i32_19 : BitVec 32 := 2#32
  let c0_i32_16 : BitVec 32 := 0#32
  let c1_i32_17 : BitVec 32 := 1#32
  let arg9 : BitVec 32 := Scf.iv c0_i32_16 c1_i32_17 k0_t1
  let v232 : BitVec 32 := Scalar.muli c2_i32_19 arg9
  let c0_i32_20 : BitVec 32 := 0#32
  let v233 : BitVec 32 := Scalar.addi v232 c0_i32_20
  let c2_i32_29 : BitVec 32 := 2#32
  let v239 : BitVec 32 := Scalar.addi v233 c2_i32_29
  let c32_i32_30 : BitVec 32 := 32#32
  let v240 : BitVec 1 := Scalar.cmpi .slt v239 c32_i32_30
  let v241 : BitVec 32 := Scalar.extui v240
  let c0_i32_31 : BitVec 32 := 0#32
  let v242 : BitVec 1 := Scalar.cmpi .ne v241 c0_i32_31
  v242

def k0_off36 (i : grid0.Coords) (k0_t1 : Fin k0_t1_loop.trips) : Fin 2 → Nat :=
  let arg0 : BitVec 32 := BitVec.ofNat 32 (i 0).val
  let c8_i32 : BitVec 32 := 8#32
  let v0 : BitVec 32 := Scalar.muli arg0 c8_i32
  let arg1 : BitVec 32 := BitVec.ofNat 32 (i 1).val
  let c0_i32 : BitVec 32 := 0#32
  let v2 : BitVec 1 := Scalar.cmpi .sgt arg1 c0_i32
  let v3 : BitVec 32 := Scalar.extui v2
  let c0_i32_0 : BitVec 32 := 0#32
  let v4 : BitVec 1 := Scalar.cmpi .slt arg1 c0_i32_0
  let v5 : BitVec 32 := Scalar.extui v4
  let v6 : BitVec 32 := Scalar.subi v3 v5
  let c2_i32 : BitVec 32 := 2#32
  let c0_i32_1 : BitVec 32 := 0#32
  let v7 : BitVec 1 := Scalar.cmpi .sgt c2_i32 c0_i32_1
  let v8 : BitVec 32 := Scalar.extui v7
  let c0_i32_2 : BitVec 32 := 0#32
  let v9 : BitVec 1 := Scalar.cmpi .slt c2_i32 c0_i32_2
  let v10 : BitVec 32 := Scalar.extui v9
  let v11 : BitVec 32 := Scalar.subi v8 v10
  let v12 : BitVec 1 := Scalar.cmpi .ne v6 v11
  let v13 : BitVec 32 := Scalar.remsi arg1 c2_i32
  let c0_i32_3 : BitVec 32 := 0#32
  let v14 : BitVec 1 := Scalar.cmpi .ne v13 c0_i32_3
  let v15 : BitVec 1 := Scalar.andi v12 v14
  let v1 : BitVec 32 := Scalar.divsi arg1 c2_i32
  let c1_i32 : BitVec 32 := 1#32
  let v16 : BitVec 32 := Scalar.subi v1 c1_i32
  let v17 : BitVec 32 := Scalar.select v15 v16 v1
  let v18 : BitVec 32 := Scalar.addi v0 v17
  let c2048_i32 : BitVec 32 := 2048#32
  let v29 : BitVec 32 := Scalar.muli v18 c2048_i32
  let c2_i32_4 : BitVec 32 := 2#32
  let c0_i32_5 : BitVec 32 := 0#32
  let v19 : BitVec 1 := Scalar.cmpi .eq c2_i32_4 c0_i32_5
  let c1_i32_6 : BitVec 32 := 1#32
  let v20 : BitVec 32 := Scalar.select v19 c1_i32_6 c2_i32_4
  let v21 : BitVec 32 := Scalar.remsi arg1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c1024_i32 : BitVec 32 := 1024#32
  let v30 : BitVec 32 := Scalar.muli v28 c1024_i32
  let v31 : BitVec 32 := Scalar.addi v29 v30
  let c2_i32_19 : BitVec 32 := 2#32
  let c0_i32_16 : BitVec 32 := 0#32
  let c1_i32_17 : BitVec 32 := 1#32
  let arg9 : BitVec 32 := Scf.iv c0_i32_16 c1_i32_17 k0_t1
  let v232 : BitVec 32 := Scalar.muli c2_i32_19 arg9
  let c0_i32_20 : BitVec 32 := 0#32
  let v233 : BitVec 32 := Scalar.addi v232 c0_i32_20
  let c2_i32_45 : BitVec 32 := 2#32
  let v254 : BitVec 32 := Scalar.addi v233 c2_i32_45
  let c32_i32_46 : BitVec 32 := 32#32
  let v255 : BitVec 32 := Scalar.muli v254 c32_i32_46
  let v256 : BitVec 32 := Scalar.addi v31 v255
  let c0_i32_47 : BitVec 32 := 0#32
  ![v256.toNat, 0]
@[reducible] def k0_t3_loop : Scf.Loop 32 :=
  let c0_i32_38 : BitVec 32 := 0#32
  let c8_i32_39 : BitVec 32 := 8#32
  let v249 : BitVec 32 := Scalar.addi c0_i32_38 c8_i32_39
  let c1_i32_40 : BitVec 32 := 1#32
  ⟨c0_i32_38, v249, c1_i32_40⟩
def k0_off37 (k0_t3 : Fin k0_t3_loop.trips) (c0_i32_46 : BitVec 32) : Fin 2 → Nat :=
  let c0_i32_48 : BitVec 32 := 0#32
  let v257 : Index := Scalar.indexCast c0_i32_48
  let c0_i32_38 : BitVec 32 := 0#32
  let c1_i32_40 : BitVec 32 := 1#32
  let arg10 : BitVec 32 := Scf.iv c0_i32_38 c1_i32_40 k0_t3
  let c8_i32_45 : BitVec 32 := 8#32
  let v254 : BitVec 32 := Scalar.muli arg10 c8_i32_45
  let v255 : BitVec 32 := Scalar.addi v254 c0_i32_46
  let c16_i32_47 : BitVec 32 := 16#32
  let v256 : BitVec 32 := Scalar.muli v255 c16_i32_47
  let v258 : Index := Scalar.indexCast v256
  ![0, v258.toNat]
def k0_off38 (k0_t3 : Fin k0_t3_loop.trips) (c0_i32_46 : BitVec 32) : Fin 2 → Nat :=
  let c1_i32_49 : BitVec 32 := 1#32
  let v261 : Index := Scalar.indexCast c1_i32_49
  let c0_i32_38 : BitVec 32 := 0#32
  let c1_i32_40 : BitVec 32 := 1#32
  let arg10 : BitVec 32 := Scf.iv c0_i32_38 c1_i32_40 k0_t3
  let c8_i32_45 : BitVec 32 := 8#32
  let v254 : BitVec 32 := Scalar.muli arg10 c8_i32_45
  let v255 : BitVec 32 := Scalar.addi v254 c0_i32_46
  let c16_i32_47 : BitVec 32 := 16#32
  let v256 : BitVec 32 := Scalar.muli v255 c16_i32_47
  let v262 : Index := Scalar.indexCast v256
  ![1, v262.toNat]
def k0_off39 (k0_t3 : Fin k0_t3_loop.trips) (c0_i32_46 : BitVec 32) : Fin 2 → Nat :=
  let c2_i32_50 : BitVec 32 := 2#32
  let v265 : Index := Scalar.indexCast c2_i32_50
  let c0_i32_38 : BitVec 32 := 0#32
  let c1_i32_40 : BitVec 32 := 1#32
  let arg10 : BitVec 32 := Scf.iv c0_i32_38 c1_i32_40 k0_t3
  let c8_i32_45 : BitVec 32 := 8#32
  let v254 : BitVec 32 := Scalar.muli arg10 c8_i32_45
  let v255 : BitVec 32 := Scalar.addi v254 c0_i32_46
  let c16_i32_47 : BitVec 32 := 16#32
  let v256 : BitVec 32 := Scalar.muli v255 c16_i32_47
  let v266 : Index := Scalar.indexCast v256
  ![2, v266.toNat]
def k0_off40 (k0_t3 : Fin k0_t3_loop.trips) (c0_i32_46 : BitVec 32) : Fin 2 → Nat :=
  let c3_i32 : BitVec 32 := 3#32
  let v269 : Index := Scalar.indexCast c3_i32
  let c0_i32_38 : BitVec 32 := 0#32
  let c1_i32_40 : BitVec 32 := 1#32
  let arg10 : BitVec 32 := Scf.iv c0_i32_38 c1_i32_40 k0_t3
  let c8_i32_45 : BitVec 32 := 8#32
  let v254 : BitVec 32 := Scalar.muli arg10 c8_i32_45
  let v255 : BitVec 32 := Scalar.addi v254 c0_i32_46
  let c16_i32_47 : BitVec 32 := 16#32
  let v256 : BitVec 32 := Scalar.muli v255 c16_i32_47
  let v270 : Index := Scalar.indexCast v256
  ![3, v270.toNat]
def k0_off41 (k0_t3 : Fin k0_t3_loop.trips) (c0_i32_46 : BitVec 32) : Fin 2 → Nat :=
  let c4_i32 : BitVec 32 := 4#32
  let v273 : Index := Scalar.indexCast c4_i32
  let c0_i32_38 : BitVec 32 := 0#32
  let c1_i32_40 : BitVec 32 := 1#32
  let arg10 : BitVec 32 := Scf.iv c0_i32_38 c1_i32_40 k0_t3
  let c8_i32_45 : BitVec 32 := 8#32
  let v254 : BitVec 32 := Scalar.muli arg10 c8_i32_45
  let v255 : BitVec 32 := Scalar.addi v254 c0_i32_46
  let c16_i32_47 : BitVec 32 := 16#32
  let v256 : BitVec 32 := Scalar.muli v255 c16_i32_47
  let v274 : Index := Scalar.indexCast v256
  ![4, v274.toNat]
def k0_off42 (k0_t3 : Fin k0_t3_loop.trips) (c0_i32_46 : BitVec 32) : Fin 2 → Nat :=
  let c5_i32 : BitVec 32 := 5#32
  let v277 : Index := Scalar.indexCast c5_i32
  let c0_i32_38 : BitVec 32 := 0#32
  let c1_i32_40 : BitVec 32 := 1#32
  let arg10 : BitVec 32 := Scf.iv c0_i32_38 c1_i32_40 k0_t3
  let c8_i32_45 : BitVec 32 := 8#32
  let v254 : BitVec 32 := Scalar.muli arg10 c8_i32_45
  let v255 : BitVec 32 := Scalar.addi v254 c0_i32_46
  let c16_i32_47 : BitVec 32 := 16#32
  let v256 : BitVec 32 := Scalar.muli v255 c16_i32_47
  let v278 : Index := Scalar.indexCast v256
  ![5, v278.toNat]
def k0_off43 (k0_t3 : Fin k0_t3_loop.trips) (c0_i32_46 : BitVec 32) : Fin 2 → Nat :=
  let c6_i32 : BitVec 32 := 6#32
  let v281 : Index := Scalar.indexCast c6_i32
  let c0_i32_38 : BitVec 32 := 0#32
  let c1_i32_40 : BitVec 32 := 1#32
  let arg10 : BitVec 32 := Scf.iv c0_i32_38 c1_i32_40 k0_t3
  let c8_i32_45 : BitVec 32 := 8#32
  let v254 : BitVec 32 := Scalar.muli arg10 c8_i32_45
  let v255 : BitVec 32 := Scalar.addi v254 c0_i32_46
  let c16_i32_47 : BitVec 32 := 16#32
  let v256 : BitVec 32 := Scalar.muli v255 c16_i32_47
  let v282 : Index := Scalar.indexCast v256
  ![6, v282.toNat]
def k0_off44 (k0_t3 : Fin k0_t3_loop.trips) (c0_i32_46 : BitVec 32) : Fin 2 → Nat :=
  let c7_i32 : BitVec 32 := 7#32
  let v285 : Index := Scalar.indexCast c7_i32
  let c0_i32_38 : BitVec 32 := 0#32
  let c1_i32_40 : BitVec 32 := 1#32
  let arg10 : BitVec 32 := Scf.iv c0_i32_38 c1_i32_40 k0_t3
  let c8_i32_45 : BitVec 32 := 8#32
  let v254 : BitVec 32 := Scalar.muli arg10 c8_i32_45
  let v255 : BitVec 32 := Scalar.addi v254 c0_i32_46
  let c16_i32_47 : BitVec 32 := 16#32
  let v256 : BitVec 32 := Scalar.muli v255 c16_i32_47
  let v286 : Index := Scalar.indexCast v256
  ![7, v286.toNat]
def k0_off45 (k0_t3 : Fin k0_t3_loop.trips) (c0_i32_46 : BitVec 32) : Fin 2 → Nat :=
  let c8_i32_51 : BitVec 32 := 8#32
  let v289 : Index := Scalar.indexCast c8_i32_51
  let c0_i32_38 : BitVec 32 := 0#32
  let c1_i32_40 : BitVec 32 := 1#32
  let arg10 : BitVec 32 := Scf.iv c0_i32_38 c1_i32_40 k0_t3
  let c8_i32_45 : BitVec 32 := 8#32
  let v254 : BitVec 32 := Scalar.muli arg10 c8_i32_45
  let v255 : BitVec 32 := Scalar.addi v254 c0_i32_46
  let c16_i32_47 : BitVec 32 := 16#32
  let v256 : BitVec 32 := Scalar.muli v255 c16_i32_47
  let v290 : Index := Scalar.indexCast v256
  ![8, v290.toNat]
def k0_off46 (k0_t3 : Fin k0_t3_loop.trips) (c0_i32_46 : BitVec 32) : Fin 2 → Nat :=
  let c9_i32 : BitVec 32 := 9#32
  let v293 : Index := Scalar.indexCast c9_i32
  let c0_i32_38 : BitVec 32 := 0#32
  let c1_i32_40 : BitVec 32 := 1#32
  let arg10 : BitVec 32 := Scf.iv c0_i32_38 c1_i32_40 k0_t3
  let c8_i32_45 : BitVec 32 := 8#32
  let v254 : BitVec 32 := Scalar.muli arg10 c8_i32_45
  let v255 : BitVec 32 := Scalar.addi v254 c0_i32_46
  let c16_i32_47 : BitVec 32 := 16#32
  let v256 : BitVec 32 := Scalar.muli v255 c16_i32_47
  let v294 : Index := Scalar.indexCast v256
  ![9, v294.toNat]
def k0_off47 (k0_t3 : Fin k0_t3_loop.trips) (c0_i32_46 : BitVec 32) : Fin 2 → Nat :=
  let c10_i32 : BitVec 32 := 10#32
  let v297 : Index := Scalar.indexCast c10_i32
  let c0_i32_38 : BitVec 32 := 0#32
  let c1_i32_40 : BitVec 32 := 1#32
  let arg10 : BitVec 32 := Scf.iv c0_i32_38 c1_i32_40 k0_t3
  let c8_i32_45 : BitVec 32 := 8#32
  let v254 : BitVec 32 := Scalar.muli arg10 c8_i32_45
  let v255 : BitVec 32 := Scalar.addi v254 c0_i32_46
  let c16_i32_47 : BitVec 32 := 16#32
  let v256 : BitVec 32 := Scalar.muli v255 c16_i32_47
  let v298 : Index := Scalar.indexCast v256
  ![10, v298.toNat]
def k0_off48 (k0_t3 : Fin k0_t3_loop.trips) (c0_i32_46 : BitVec 32) : Fin 2 → Nat :=
  let c11_i32 : BitVec 32 := 11#32
  let v301 : Index := Scalar.indexCast c11_i32
  let c0_i32_38 : BitVec 32 := 0#32
  let c1_i32_40 : BitVec 32 := 1#32
  let arg10 : BitVec 32 := Scf.iv c0_i32_38 c1_i32_40 k0_t3
  let c8_i32_45 : BitVec 32 := 8#32
  let v254 : BitVec 32 := Scalar.muli arg10 c8_i32_45
  let v255 : BitVec 32 := Scalar.addi v254 c0_i32_46
  let c16_i32_47 : BitVec 32 := 16#32
  let v256 : BitVec 32 := Scalar.muli v255 c16_i32_47
  let v302 : Index := Scalar.indexCast v256
  ![11, v302.toNat]
def k0_off49 (k0_t3 : Fin k0_t3_loop.trips) (c0_i32_46 : BitVec 32) : Fin 2 → Nat :=
  let c12_i32 : BitVec 32 := 12#32
  let v305 : Index := Scalar.indexCast c12_i32
  let c0_i32_38 : BitVec 32 := 0#32
  let c1_i32_40 : BitVec 32 := 1#32
  let arg10 : BitVec 32 := Scf.iv c0_i32_38 c1_i32_40 k0_t3
  let c8_i32_45 : BitVec 32 := 8#32
  let v254 : BitVec 32 := Scalar.muli arg10 c8_i32_45
  let v255 : BitVec 32 := Scalar.addi v254 c0_i32_46
  let c16_i32_47 : BitVec 32 := 16#32
  let v256 : BitVec 32 := Scalar.muli v255 c16_i32_47
  let v306 : Index := Scalar.indexCast v256
  ![12, v306.toNat]
def k0_off50 (k0_t3 : Fin k0_t3_loop.trips) (c0_i32_46 : BitVec 32) : Fin 2 → Nat :=
  let c13_i32 : BitVec 32 := 13#32
  let v309 : Index := Scalar.indexCast c13_i32
  let c0_i32_38 : BitVec 32 := 0#32
  let c1_i32_40 : BitVec 32 := 1#32
  let arg10 : BitVec 32 := Scf.iv c0_i32_38 c1_i32_40 k0_t3
  let c8_i32_45 : BitVec 32 := 8#32
  let v254 : BitVec 32 := Scalar.muli arg10 c8_i32_45
  let v255 : BitVec 32 := Scalar.addi v254 c0_i32_46
  let c16_i32_47 : BitVec 32 := 16#32
  let v256 : BitVec 32 := Scalar.muli v255 c16_i32_47
  let v310 : Index := Scalar.indexCast v256
  ![13, v310.toNat]
def k0_off51 (k0_t3 : Fin k0_t3_loop.trips) (c0_i32_46 : BitVec 32) : Fin 2 → Nat :=
  let c14_i32 : BitVec 32 := 14#32
  let v313 : Index := Scalar.indexCast c14_i32
  let c0_i32_38 : BitVec 32 := 0#32
  let c1_i32_40 : BitVec 32 := 1#32
  let arg10 : BitVec 32 := Scf.iv c0_i32_38 c1_i32_40 k0_t3
  let c8_i32_45 : BitVec 32 := 8#32
  let v254 : BitVec 32 := Scalar.muli arg10 c8_i32_45
  let v255 : BitVec 32 := Scalar.addi v254 c0_i32_46
  let c16_i32_47 : BitVec 32 := 16#32
  let v256 : BitVec 32 := Scalar.muli v255 c16_i32_47
  let v314 : Index := Scalar.indexCast v256
  ![14, v314.toNat]
def k0_off52 (k0_t3 : Fin k0_t3_loop.trips) (c0_i32_46 : BitVec 32) : Fin 2 → Nat :=
  let c15_i32 : BitVec 32 := 15#32
  let v317 : Index := Scalar.indexCast c15_i32
  let c0_i32_38 : BitVec 32 := 0#32
  let c1_i32_40 : BitVec 32 := 1#32
  let arg10 : BitVec 32 := Scf.iv c0_i32_38 c1_i32_40 k0_t3
  let c8_i32_45 : BitVec 32 := 8#32
  let v254 : BitVec 32 := Scalar.muli arg10 c8_i32_45
  let v255 : BitVec 32 := Scalar.addi v254 c0_i32_46
  let c16_i32_47 : BitVec 32 := 16#32
  let v256 : BitVec 32 := Scalar.muli v255 c16_i32_47
  let v318 : Index := Scalar.indexCast v256
  ![15, v318.toNat]
def k0_off53 (k0_t3 : Fin k0_t3_loop.trips) (c0_i32_46 : BitVec 32) : Fin 2 → Nat :=
  let c16_i32_52 : BitVec 32 := 16#32
  let v321 : Index := Scalar.indexCast c16_i32_52
  let c0_i32_38 : BitVec 32 := 0#32
  let c1_i32_40 : BitVec 32 := 1#32
  let arg10 : BitVec 32 := Scf.iv c0_i32_38 c1_i32_40 k0_t3
  let c8_i32_45 : BitVec 32 := 8#32
  let v254 : BitVec 32 := Scalar.muli arg10 c8_i32_45
  let v255 : BitVec 32 := Scalar.addi v254 c0_i32_46
  let c16_i32_47 : BitVec 32 := 16#32
  let v256 : BitVec 32 := Scalar.muli v255 c16_i32_47
  let v322 : Index := Scalar.indexCast v256
  ![16, v322.toNat]
def k0_off54 (k0_t3 : Fin k0_t3_loop.trips) (c0_i32_46 : BitVec 32) : Fin 2 → Nat :=
  let c17_i32 : BitVec 32 := 17#32
  let v325 : Index := Scalar.indexCast c17_i32
  let c0_i32_38 : BitVec 32 := 0#32
  let c1_i32_40 : BitVec 32 := 1#32
  let arg10 : BitVec 32 := Scf.iv c0_i32_38 c1_i32_40 k0_t3
  let c8_i32_45 : BitVec 32 := 8#32
  let v254 : BitVec 32 := Scalar.muli arg10 c8_i32_45
  let v255 : BitVec 32 := Scalar.addi v254 c0_i32_46
  let c16_i32_47 : BitVec 32 := 16#32
  let v256 : BitVec 32 := Scalar.muli v255 c16_i32_47
  let v326 : Index := Scalar.indexCast v256
  ![17, v326.toNat]
def k0_off55 (k0_t3 : Fin k0_t3_loop.trips) (c0_i32_46 : BitVec 32) : Fin 2 → Nat :=
  let c18_i32 : BitVec 32 := 18#32
  let v329 : Index := Scalar.indexCast c18_i32
  let c0_i32_38 : BitVec 32 := 0#32
  let c1_i32_40 : BitVec 32 := 1#32
  let arg10 : BitVec 32 := Scf.iv c0_i32_38 c1_i32_40 k0_t3
  let c8_i32_45 : BitVec 32 := 8#32
  let v254 : BitVec 32 := Scalar.muli arg10 c8_i32_45
  let v255 : BitVec 32 := Scalar.addi v254 c0_i32_46
  let c16_i32_47 : BitVec 32 := 16#32
  let v256 : BitVec 32 := Scalar.muli v255 c16_i32_47
  let v330 : Index := Scalar.indexCast v256
  ![18, v330.toNat]
def k0_off56 (k0_t3 : Fin k0_t3_loop.trips) (c0_i32_46 : BitVec 32) : Fin 2 → Nat :=
  let c19_i32 : BitVec 32 := 19#32
  let v333 : Index := Scalar.indexCast c19_i32
  let c0_i32_38 : BitVec 32 := 0#32
  let c1_i32_40 : BitVec 32 := 1#32
  let arg10 : BitVec 32 := Scf.iv c0_i32_38 c1_i32_40 k0_t3
  let c8_i32_45 : BitVec 32 := 8#32
  let v254 : BitVec 32 := Scalar.muli arg10 c8_i32_45
  let v255 : BitVec 32 := Scalar.addi v254 c0_i32_46
  let c16_i32_47 : BitVec 32 := 16#32
  let v256 : BitVec 32 := Scalar.muli v255 c16_i32_47
  let v334 : Index := Scalar.indexCast v256
  ![19, v334.toNat]
def k0_off57 (k0_t3 : Fin k0_t3_loop.trips) (c0_i32_46 : BitVec 32) : Fin 2 → Nat :=
  let c20_i32 : BitVec 32 := 20#32
  let v337 : Index := Scalar.indexCast c20_i32
  let c0_i32_38 : BitVec 32 := 0#32
  let c1_i32_40 : BitVec 32 := 1#32
  let arg10 : BitVec 32 := Scf.iv c0_i32_38 c1_i32_40 k0_t3
  let c8_i32_45 : BitVec 32 := 8#32
  let v254 : BitVec 32 := Scalar.muli arg10 c8_i32_45
  let v255 : BitVec 32 := Scalar.addi v254 c0_i32_46
  let c16_i32_47 : BitVec 32 := 16#32
  let v256 : BitVec 32 := Scalar.muli v255 c16_i32_47
  let v338 : Index := Scalar.indexCast v256
  ![20, v338.toNat]
def k0_off58 (k0_t3 : Fin k0_t3_loop.trips) (c0_i32_46 : BitVec 32) : Fin 2 → Nat :=
  let c21_i32 : BitVec 32 := 21#32
  let v341 : Index := Scalar.indexCast c21_i32
  let c0_i32_38 : BitVec 32 := 0#32
  let c1_i32_40 : BitVec 32 := 1#32
  let arg10 : BitVec 32 := Scf.iv c0_i32_38 c1_i32_40 k0_t3
  let c8_i32_45 : BitVec 32 := 8#32
  let v254 : BitVec 32 := Scalar.muli arg10 c8_i32_45
  let v255 : BitVec 32 := Scalar.addi v254 c0_i32_46
  let c16_i32_47 : BitVec 32 := 16#32
  let v256 : BitVec 32 := Scalar.muli v255 c16_i32_47
  let v342 : Index := Scalar.indexCast v256
  ![21, v342.toNat]
def k0_off59 (k0_t3 : Fin k0_t3_loop.trips) (c0_i32_46 : BitVec 32) : Fin 2 → Nat :=
  let c22_i32 : BitVec 32 := 22#32
  let v345 : Index := Scalar.indexCast c22_i32
  let c0_i32_38 : BitVec 32 := 0#32
  let c1_i32_40 : BitVec 32 := 1#32
  let arg10 : BitVec 32 := Scf.iv c0_i32_38 c1_i32_40 k0_t3
  let c8_i32_45 : BitVec 32 := 8#32
  let v254 : BitVec 32 := Scalar.muli arg10 c8_i32_45
  let v255 : BitVec 32 := Scalar.addi v254 c0_i32_46
  let c16_i32_47 : BitVec 32 := 16#32
  let v256 : BitVec 32 := Scalar.muli v255 c16_i32_47
  let v346 : Index := Scalar.indexCast v256
  ![22, v346.toNat]
def k0_off60 (k0_t3 : Fin k0_t3_loop.trips) (c0_i32_46 : BitVec 32) : Fin 2 → Nat :=
  let c23_i32 : BitVec 32 := 23#32
  let v349 : Index := Scalar.indexCast c23_i32
  let c0_i32_38 : BitVec 32 := 0#32
  let c1_i32_40 : BitVec 32 := 1#32
  let arg10 : BitVec 32 := Scf.iv c0_i32_38 c1_i32_40 k0_t3
  let c8_i32_45 : BitVec 32 := 8#32
  let v254 : BitVec 32 := Scalar.muli arg10 c8_i32_45
  let v255 : BitVec 32 := Scalar.addi v254 c0_i32_46
  let c16_i32_47 : BitVec 32 := 16#32
  let v256 : BitVec 32 := Scalar.muli v255 c16_i32_47
  let v350 : Index := Scalar.indexCast v256
  ![23, v350.toNat]
def k0_off61 (k0_t3 : Fin k0_t3_loop.trips) (c0_i32_46 : BitVec 32) : Fin 2 → Nat :=
  let c24_i32 : BitVec 32 := 24#32
  let v353 : Index := Scalar.indexCast c24_i32
  let c0_i32_38 : BitVec 32 := 0#32
  let c1_i32_40 : BitVec 32 := 1#32
  let arg10 : BitVec 32 := Scf.iv c0_i32_38 c1_i32_40 k0_t3
  let c8_i32_45 : BitVec 32 := 8#32
  let v254 : BitVec 32 := Scalar.muli arg10 c8_i32_45
  let v255 : BitVec 32 := Scalar.addi v254 c0_i32_46
  let c16_i32_47 : BitVec 32 := 16#32
  let v256 : BitVec 32 := Scalar.muli v255 c16_i32_47
  let v354 : Index := Scalar.indexCast v256
  ![24, v354.toNat]
def k0_off62 (k0_t3 : Fin k0_t3_loop.trips) (c0_i32_46 : BitVec 32) : Fin 2 → Nat :=
  let c25_i32 : BitVec 32 := 25#32
  let v357 : Index := Scalar.indexCast c25_i32
  let c0_i32_38 : BitVec 32 := 0#32
  let c1_i32_40 : BitVec 32 := 1#32
  let arg10 : BitVec 32 := Scf.iv c0_i32_38 c1_i32_40 k0_t3
  let c8_i32_45 : BitVec 32 := 8#32
  let v254 : BitVec 32 := Scalar.muli arg10 c8_i32_45
  let v255 : BitVec 32 := Scalar.addi v254 c0_i32_46
  let c16_i32_47 : BitVec 32 := 16#32
  let v256 : BitVec 32 := Scalar.muli v255 c16_i32_47
  let v358 : Index := Scalar.indexCast v256
  ![25, v358.toNat]
def k0_off63 (k0_t3 : Fin k0_t3_loop.trips) (c0_i32_46 : BitVec 32) : Fin 2 → Nat :=
  let c26_i32 : BitVec 32 := 26#32
  let v361 : Index := Scalar.indexCast c26_i32
  let c0_i32_38 : BitVec 32 := 0#32
  let c1_i32_40 : BitVec 32 := 1#32
  let arg10 : BitVec 32 := Scf.iv c0_i32_38 c1_i32_40 k0_t3
  let c8_i32_45 : BitVec 32 := 8#32
  let v254 : BitVec 32 := Scalar.muli arg10 c8_i32_45
  let v255 : BitVec 32 := Scalar.addi v254 c0_i32_46
  let c16_i32_47 : BitVec 32 := 16#32
  let v256 : BitVec 32 := Scalar.muli v255 c16_i32_47
  let v362 : Index := Scalar.indexCast v256
  ![26, v362.toNat]
def k0_off64 (k0_t3 : Fin k0_t3_loop.trips) (c0_i32_46 : BitVec 32) : Fin 2 → Nat :=
  let c27_i32 : BitVec 32 := 27#32
  let v365 : Index := Scalar.indexCast c27_i32
  let c0_i32_38 : BitVec 32 := 0#32
  let c1_i32_40 : BitVec 32 := 1#32
  let arg10 : BitVec 32 := Scf.iv c0_i32_38 c1_i32_40 k0_t3
  let c8_i32_45 : BitVec 32 := 8#32
  let v254 : BitVec 32 := Scalar.muli arg10 c8_i32_45
  let v255 : BitVec 32 := Scalar.addi v254 c0_i32_46
  let c16_i32_47 : BitVec 32 := 16#32
  let v256 : BitVec 32 := Scalar.muli v255 c16_i32_47
  let v366 : Index := Scalar.indexCast v256
  ![27, v366.toNat]
def k0_off65 (k0_t3 : Fin k0_t3_loop.trips) (c0_i32_46 : BitVec 32) : Fin 2 → Nat :=
  let c28_i32 : BitVec 32 := 28#32
  let v369 : Index := Scalar.indexCast c28_i32
  let c0_i32_38 : BitVec 32 := 0#32
  let c1_i32_40 : BitVec 32 := 1#32
  let arg10 : BitVec 32 := Scf.iv c0_i32_38 c1_i32_40 k0_t3
  let c8_i32_45 : BitVec 32 := 8#32
  let v254 : BitVec 32 := Scalar.muli arg10 c8_i32_45
  let v255 : BitVec 32 := Scalar.addi v254 c0_i32_46
  let c16_i32_47 : BitVec 32 := 16#32
  let v256 : BitVec 32 := Scalar.muli v255 c16_i32_47
  let v370 : Index := Scalar.indexCast v256
  ![28, v370.toNat]
def k0_off66 (k0_t3 : Fin k0_t3_loop.trips) (c0_i32_46 : BitVec 32) : Fin 2 → Nat :=
  let c29_i32 : BitVec 32 := 29#32
  let v373 : Index := Scalar.indexCast c29_i32
  let c0_i32_38 : BitVec 32 := 0#32
  let c1_i32_40 : BitVec 32 := 1#32
  let arg10 : BitVec 32 := Scf.iv c0_i32_38 c1_i32_40 k0_t3
  let c8_i32_45 : BitVec 32 := 8#32
  let v254 : BitVec 32 := Scalar.muli arg10 c8_i32_45
  let v255 : BitVec 32 := Scalar.addi v254 c0_i32_46
  let c16_i32_47 : BitVec 32 := 16#32
  let v256 : BitVec 32 := Scalar.muli v255 c16_i32_47
  let v374 : Index := Scalar.indexCast v256
  ![29, v374.toNat]
def k0_off67 (k0_t3 : Fin k0_t3_loop.trips) (c0_i32_46 : BitVec 32) : Fin 2 → Nat :=
  let c30_i32 : BitVec 32 := 30#32
  let v377 : Index := Scalar.indexCast c30_i32
  let c0_i32_38 : BitVec 32 := 0#32
  let c1_i32_40 : BitVec 32 := 1#32
  let arg10 : BitVec 32 := Scf.iv c0_i32_38 c1_i32_40 k0_t3
  let c8_i32_45 : BitVec 32 := 8#32
  let v254 : BitVec 32 := Scalar.muli arg10 c8_i32_45
  let v255 : BitVec 32 := Scalar.addi v254 c0_i32_46
  let c16_i32_47 : BitVec 32 := 16#32
  let v256 : BitVec 32 := Scalar.muli v255 c16_i32_47
  let v378 : Index := Scalar.indexCast v256
  ![30, v378.toNat]
def k0_off68 (k0_t3 : Fin k0_t3_loop.trips) (c0_i32_46 : BitVec 32) : Fin 2 → Nat :=
  let c31_i32 : BitVec 32 := 31#32
  let v381 : Index := Scalar.indexCast c31_i32
  let c0_i32_38 : BitVec 32 := 0#32
  let c1_i32_40 : BitVec 32 := 1#32
  let arg10 : BitVec 32 := Scf.iv c0_i32_38 c1_i32_40 k0_t3
  let c8_i32_45 : BitVec 32 := 8#32
  let v254 : BitVec 32 := Scalar.muli arg10 c8_i32_45
  let v255 : BitVec 32 := Scalar.addi v254 c0_i32_46
  let c16_i32_47 : BitVec 32 := 16#32
  let v256 : BitVec 32 := Scalar.muli v255 c16_i32_47
  let v382 : Index := Scalar.indexCast v256
  ![31, v382.toNat]
def k0_off69 (k0_t3 : Fin k0_t3_loop.trips) (c0_i32_46 : BitVec 32) : Fin 1 → Nat :=
  let c0_i32_38 : BitVec 32 := 0#32
  let c1_i32_40 : BitVec 32 := 1#32
  let arg10 : BitVec 32 := Scf.iv c0_i32_38 c1_i32_40 k0_t3
  let c8_i32_45 : BitVec 32 := 8#32
  let v254 : BitVec 32 := Scalar.muli arg10 c8_i32_45
  let v255 : BitVec 32 := Scalar.addi v254 c0_i32_46
  let c16_i32_47 : BitVec 32 := 16#32
  let v256 : BitVec 32 := Scalar.muli v255 c16_i32_47
  let v416 : Index := Scalar.indexCast v256
  ![v416.toNat]
def k0_cond2 (k0_t1 : Fin k0_t1_loop.trips) : BitVec 1 :=
  let c2_i32_32 : BitVec 32 := 2#32
  let c0_i32_16 : BitVec 32 := 0#32
  let c1_i32_17 : BitVec 32 := 1#32
  let arg9 : BitVec 32 := Scf.iv c0_i32_16 c1_i32_17 k0_t1
  let v243 : BitVec 32 := Scalar.muli c2_i32_32 arg9
  let c1_i32_33 : BitVec 32 := 1#32
  let v244 : BitVec 32 := Scalar.addi v243 c1_i32_33
  let c2_i32_42 : BitVec 32 := 2#32
  let v250 : BitVec 32 := Scalar.addi v244 c2_i32_42
  let c32_i32_43 : BitVec 32 := 32#32
  let v251 : BitVec 1 := Scalar.cmpi .slt v250 c32_i32_43
  let v252 : BitVec 32 := Scalar.extui v251
  let c0_i32_44 : BitVec 32 := 0#32
  let v253 : BitVec 1 := Scalar.cmpi .ne v252 c0_i32_44
  v253

def k0_off70 (i : grid0.Coords) (k0_t1 : Fin k0_t1_loop.trips) : Fin 2 → Nat :=
  let arg0 : BitVec 32 := BitVec.ofNat 32 (i 0).val
  let c8_i32 : BitVec 32 := 8#32
  let v0 : BitVec 32 := Scalar.muli arg0 c8_i32
  let arg1 : BitVec 32 := BitVec.ofNat 32 (i 1).val
  let c0_i32 : BitVec 32 := 0#32
  let v2 : BitVec 1 := Scalar.cmpi .sgt arg1 c0_i32
  let v3 : BitVec 32 := Scalar.extui v2
  let c0_i32_0 : BitVec 32 := 0#32
  let v4 : BitVec 1 := Scalar.cmpi .slt arg1 c0_i32_0
  let v5 : BitVec 32 := Scalar.extui v4
  let v6 : BitVec 32 := Scalar.subi v3 v5
  let c2_i32 : BitVec 32 := 2#32
  let c0_i32_1 : BitVec 32 := 0#32
  let v7 : BitVec 1 := Scalar.cmpi .sgt c2_i32 c0_i32_1
  let v8 : BitVec 32 := Scalar.extui v7
  let c0_i32_2 : BitVec 32 := 0#32
  let v9 : BitVec 1 := Scalar.cmpi .slt c2_i32 c0_i32_2
  let v10 : BitVec 32 := Scalar.extui v9
  let v11 : BitVec 32 := Scalar.subi v8 v10
  let v12 : BitVec 1 := Scalar.cmpi .ne v6 v11
  let v13 : BitVec 32 := Scalar.remsi arg1 c2_i32
  let c0_i32_3 : BitVec 32 := 0#32
  let v14 : BitVec 1 := Scalar.cmpi .ne v13 c0_i32_3
  let v15 : BitVec 1 := Scalar.andi v12 v14
  let v1 : BitVec 32 := Scalar.divsi arg1 c2_i32
  let c1_i32 : BitVec 32 := 1#32
  let v16 : BitVec 32 := Scalar.subi v1 c1_i32
  let v17 : BitVec 32 := Scalar.select v15 v16 v1
  let v18 : BitVec 32 := Scalar.addi v0 v17
  let c2048_i32 : BitVec 32 := 2048#32
  let v29 : BitVec 32 := Scalar.muli v18 c2048_i32
  let c2_i32_4 : BitVec 32 := 2#32
  let c0_i32_5 : BitVec 32 := 0#32
  let v19 : BitVec 1 := Scalar.cmpi .eq c2_i32_4 c0_i32_5
  let c1_i32_6 : BitVec 32 := 1#32
  let v20 : BitVec 32 := Scalar.select v19 c1_i32_6 c2_i32_4
  let v21 : BitVec 32 := Scalar.remsi arg1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c1024_i32 : BitVec 32 := 1024#32
  let v30 : BitVec 32 := Scalar.muli v28 c1024_i32
  let v31 : BitVec 32 := Scalar.addi v29 v30
  let c2_i32_32 : BitVec 32 := 2#32
  let c0_i32_16 : BitVec 32 := 0#32
  let c1_i32_17 : BitVec 32 := 1#32
  let arg9 : BitVec 32 := Scf.iv c0_i32_16 c1_i32_17 k0_t1
  let v243 : BitVec 32 := Scalar.muli c2_i32_32 arg9
  let c1_i32_33 : BitVec 32 := 1#32
  let v244 : BitVec 32 := Scalar.addi v243 c1_i32_33
  let c2_i32_45 : BitVec 32 := 2#32
  let v254 : BitVec 32 := Scalar.addi v244 c2_i32_45
  let c32_i32_46 : BitVec 32 := 32#32
  let v255 : BitVec 32 := Scalar.muli v254 c32_i32_46
  let v256 : BitVec 32 := Scalar.addi v31 v255
  let c0_i32_47 : BitVec 32 := 0#32
  ![v256.toNat, 0]
def k0_off71 (i : grid0.Coords) : Fin 3 → Nat :=
  let arg0 : BitVec 32 := BitVec.ofNat 32 (i 0).val
  let c8_i32 : BitVec 32 := 8#32
  let v0 : BitVec 32 := Scalar.muli arg0 c8_i32
  let arg1 : BitVec 32 := BitVec.ofNat 32 (i 1).val
  let c0_i32 : BitVec 32 := 0#32
  let v2 : BitVec 1 := Scalar.cmpi .sgt arg1 c0_i32
  let v3 : BitVec 32 := Scalar.extui v2
  let c0_i32_0 : BitVec 32 := 0#32
  let v4 : BitVec 1 := Scalar.cmpi .slt arg1 c0_i32_0
  let v5 : BitVec 32 := Scalar.extui v4
  let v6 : BitVec 32 := Scalar.subi v3 v5
  let c2_i32 : BitVec 32 := 2#32
  let c0_i32_1 : BitVec 32 := 0#32
  let v7 : BitVec 1 := Scalar.cmpi .sgt c2_i32 c0_i32_1
  let v8 : BitVec 32 := Scalar.extui v7
  let c0_i32_2 : BitVec 32 := 0#32
  let v9 : BitVec 1 := Scalar.cmpi .slt c2_i32 c0_i32_2
  let v10 : BitVec 32 := Scalar.extui v9
  let v11 : BitVec 32 := Scalar.subi v8 v10
  let v12 : BitVec 1 := Scalar.cmpi .ne v6 v11
  let v13 : BitVec 32 := Scalar.remsi arg1 c2_i32
  let c0_i32_3 : BitVec 32 := 0#32
  let v14 : BitVec 1 := Scalar.cmpi .ne v13 c0_i32_3
  let v15 : BitVec 1 := Scalar.andi v12 v14
  let v1 : BitVec 32 := Scalar.divsi arg1 c2_i32
  let c1_i32 : BitVec 32 := 1#32
  let v16 : BitVec 32 := Scalar.subi v1 c1_i32
  let v17 : BitVec 32 := Scalar.select v15 v16 v1
  let v18 : BitVec 32 := Scalar.addi v0 v17
  let c2_i32_4 : BitVec 32 := 2#32
  let c0_i32_5 : BitVec 32 := 0#32
  let v19 : BitVec 1 := Scalar.cmpi .eq c2_i32_4 c0_i32_5
  let c1_i32_6 : BitVec 32 := 1#32
  let v20 : BitVec 32 := Scalar.select v19 c1_i32_6 c2_i32_4
  let v21 : BitVec 32 := Scalar.remsi arg1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c0_i32_19_r0 : BitVec 32 := 0#32
  ![v18.toNat, v28.toNat, 0]
abbrev grid1 : Pipeline.Grid := .none

abbrev stage1_0 : Fin 1 → Memref sig .tc .vmem S16x2x1024 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))

abbrev stage1_1 : Fin 1 → Memref sig .tc .vmem S16x1024 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== KernelIdeal.lean ====
variable {F : FTy → Type} [FloatOps F] [Named F]
def κ : String → Option EReal := fun
  | "eps2" => some ((5316911940649 / 1267650600228229401496703205376 : ℝ) : EReal)
  | _ => none
-- ==== ReferenceIdeal.lean ====
abbrev S32768x1024 : Shape := ⟨2, ![32768, 1024]⟩
abbrev S16 : Shape := ⟨1, ![16]⟩
abbrev S_ : Shape := ⟨0, ![]⟩
abbrev S1 : Shape := ⟨1, ![1]⟩
abbrev S15 : Shape := ⟨1, ![15]⟩
abbrev S16x1 : Shape := ⟨2, ![16, 1]⟩
abbrev S16x1024 : Shape := ⟨2, ![16, 1024]⟩

abbrev nBuf : Space → Nat
  | .hbm => 61
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S16, .i32⟩
  | .hbm, ⟨2, _⟩ => ⟨S_, .f32⟩
  | .hbm, ⟨3, _⟩ => ⟨S_, .f32⟩
  | .hbm, ⟨4, _⟩ => ⟨S32768x1024, .f32⟩
  | .hbm, ⟨5, _⟩ => ⟨S_, .i32⟩
  | .hbm, ⟨6, _⟩ => ⟨S1, .i32⟩
  | .hbm, ⟨7, _⟩ => ⟨S15, .i32⟩
  | .hbm, ⟨8, _⟩ => ⟨S_, .i32⟩
  | .hbm, ⟨9, _⟩ => ⟨S_, .i32⟩
  | .hbm, ⟨10, _⟩ => ⟨S15, .i32⟩
  | .hbm, ⟨11, _⟩ => ⟨S16, .i32⟩
  | .hbm, ⟨12, _⟩ => ⟨S_, .i32⟩
  | .hbm, ⟨13, _⟩ => ⟨S_, .i32⟩
  | .hbm, ⟨14, _⟩ => ⟨S16, .i32⟩
  | .hbm, ⟨15, _⟩ => ⟨S_, .i32⟩
  | .hbm, ⟨16, _⟩ => ⟨S16, .i32⟩
  | .hbm, ⟨17, _⟩ => ⟨S16, .i32⟩
  | .hbm, ⟨18, _⟩ => ⟨S_, .i32⟩
  | .hbm, ⟨19, _⟩ => ⟨S16, .i32⟩
  | .hbm, ⟨20, _⟩ => ⟨S16, .i1⟩
  | .hbm, ⟨21, _⟩ => ⟨S_, .i32⟩
  | .hbm, ⟨22, _⟩ => ⟨S16, .i32⟩
  | .hbm, ⟨23, _⟩ => ⟨S16, .i32⟩
  | .hbm, ⟨24, _⟩ => ⟨S16, .i32⟩
  | .hbm, ⟨25, _⟩ => ⟨S16x1, .i32⟩
  | .hbm, ⟨26, _⟩ => ⟨S16x1024, .f32⟩
  | .hbm, ⟨27, _⟩ => ⟨S_, .i32⟩
  | .hbm, ⟨28, _⟩ => ⟨S16, .i32⟩
  | .hbm, ⟨29, _⟩ => ⟨S16, .i1⟩
  | .hbm, ⟨30, _⟩ => ⟨S_, .i32⟩
  | .hbm, ⟨31, _⟩ => ⟨S16, .i32⟩
  | .hbm, ⟨32, _⟩ => ⟨S16, .i32⟩
  | .hbm, ⟨33, _⟩ => ⟨S16, .i32⟩
  | .hbm, ⟨34, _⟩ => ⟨S16x1, .i32⟩
  | .hbm, ⟨35, _⟩ => ⟨S16x1024, .f32⟩
  | .hbm, ⟨36, _⟩ => ⟨S16x1024, .f32⟩
  | .hbm, ⟨37, _⟩ => ⟨S_, .i32⟩
  | .hbm, ⟨38, _⟩ => ⟨S16, .i32⟩
  | .hbm, ⟨39, _⟩ => ⟨S16, .i1⟩
  | .hbm, ⟨40, _⟩ => ⟨S_, .i32⟩
  | .hbm, ⟨41, _⟩ => ⟨S16, .i32⟩
  | .hbm, ⟨42, _⟩ => ⟨S16, .i32⟩
  | .hbm, ⟨43, _⟩ => ⟨S16, .i32⟩
  | .hbm, ⟨44, _⟩ => ⟨S16x1, .i32⟩
  | .hbm, ⟨45, _⟩ => ⟨S16x1024, .f32⟩
  | .hbm, ⟨46, _⟩ => ⟨S16x1024, .f32⟩
  | .hbm, ⟨47, _⟩ => ⟨S16x1, .i32⟩
  | .hbm, ⟨48, _⟩ => ⟨S16x1, .f32⟩
  | .hbm, ⟨49, _⟩ => ⟨S16x1024, .f32⟩
  | .hbm, ⟨50, _⟩ => ⟨S16x1024, .f32⟩
  | .hbm, ⟨51, _⟩ => ⟨S16x1024, .f32⟩
  | .hbm, ⟨52, _⟩ => ⟨S_, .f32⟩
  | .hbm, ⟨53, _⟩ => ⟨S16, .f32⟩
  | .hbm, ⟨54, _⟩ => ⟨S16x1, .f32⟩
  | .hbm, ⟨55, _⟩ => ⟨S16x1, .f32⟩
  | .hbm, ⟨56, _⟩ => ⟨S_, .f32⟩
  | .hbm, ⟨57, _⟩ => ⟨S16x1, .f32⟩
  | .hbm, ⟨58, _⟩ => ⟨S16x1, .f32⟩
  | .hbm, ⟨59, _⟩ => ⟨S16x1024, .f32⟩
  | .hbm, ⟨60, _⟩ => ⟨S16x1024, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_call0_cst : Ref sig .tc := ⟨.hbm, 2, rfl⟩
abbrev main_call0_call0_v0 : Ref sig .tc := ⟨.hbm, 3, rfl⟩
abbrev main_v0 : Ref sig .tc := ⟨.hbm, 4, rfl⟩
abbrev main_c : Ref sig .tc := ⟨.hbm, 5, rfl⟩
abbrev main_v1 : Ref sig .tc := ⟨.hbm, 6, rfl⟩
abbrev main_v2 : Ref sig .tc := ⟨.hbm, 7, rfl⟩
abbrev main_call1_call0_c : Ref sig .tc := ⟨.hbm, 8, rfl⟩
abbrev main_call1_call0_v0 : Ref sig .tc := ⟨.hbm, 9, rfl⟩
abbrev main_v3 : Ref sig .tc := ⟨.hbm, 10, rfl⟩
abbrev main_v4 : Ref sig .tc := ⟨.hbm, 11, rfl⟩
abbrev main_call2_call0_c : Ref sig .tc := ⟨.hbm, 12, rfl⟩
abbrev main_call2_call0_v0 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_c_1 : Ref sig .tc := ⟨.hbm, 18, rfl⟩
abbrev main_v8 : Ref sig .tc := ⟨.hbm, 19, rfl⟩
abbrev main_v9 : Ref sig .tc := ⟨.hbm, 20, rfl⟩
abbrev main_c_2 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_c_3 : Ref sig .tc := ⟨.hbm, 27, rfl⟩
abbrev main_v15 : Ref sig .tc := ⟨.hbm, 28, rfl⟩
abbrev main_v16 : Ref sig .tc := ⟨.hbm, 29, rfl⟩
abbrev main_c_4 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_c_5 : Ref sig .tc := ⟨.hbm, 37, rfl⟩
abbrev main_v23 : Ref sig .tc := ⟨.hbm, 38, rfl⟩
abbrev main_v24 : Ref sig .tc := ⟨.hbm, 39, rfl⟩
abbrev main_c_6 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_call3_v0 : Ref sig .tc := ⟨.hbm, 51, rfl⟩
abbrev main_call3_cst : Ref sig .tc := ⟨.hbm, 52, rfl⟩
abbrev main_call3_v1 : Ref sig .tc := ⟨.hbm, 53, rfl⟩
abbrev main_call3_v2 : Ref sig .tc := ⟨.hbm, 54, rfl⟩
abbrev main_v35 : Ref sig .tc := ⟨.hbm, 55, rfl⟩
abbrev main_cst : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩

abbrev nD : Nat := 1
abbrev τ : Topo := Topo.v7x

variable {F : FTy → Type} [FloatOps F]
-- ==== Proof.Sums.lean ====
module
public import Idealize.ShloMosaic.Lib.ValueLayout
@[expose] public section
noncomputable section
namespace Cert.Proof.Sums
open Idealize.ShloMosaic

/-! The order in which the kernel adds: sums of `2 ^ n` rows as balanced trees, and a running total of such trees.
    Rows are functions of a row number and a lane, so the same definitions serve a buffer and the whole array. -/

variable {F : FTy → Type} [FloatOps F] {α : Type}

/-- Lane `j` of the balanced tree over the `2 ^ n` rows from row `o` on. -/
def treeOf (f : ℕ → α → F .f32) : (n o : ℕ) → α → F .f32
  | 0, o, j => f o j
  | n + 1, o, j => FloatOps.addf (treeOf f n o j) (treeOf f n (o + 2 ^ n) j)

/-- Lane `j` of the total after `k` chunks of thirty-two rows, from row `b` on: each chunk's tree added to what came before. -/
def totalOf (f : ℕ → α → F .f32) (z : F .f32) (b : ℕ) : (k : ℕ) → α → F .f32
  | 0, _ => z
  | k + 1, j => FloatOps.addf (totalOf f z b k j) (treeOf f 5 (b + 32 * k) j)

/-- Two families that agree on the rows a tree sums have the same tree there. -/
theorem treeOf_congr (f g : ℕ → α → F .f32) (j : α) (b : ℕ) : ∀ n o, (∀ r, o ≤ r → r < o + 2 ^ n → f r j = g (b + r) j) →
    treeOf f n o j = treeOf g n (b + o) j
  | 0, o, h => h o le_rfl (Nat.lt_succ_self o)
  | n + 1, o, h => by
    have e : 2 ^ (n + 1) = 2 ^ n + 2 ^ n := by rw [Nat.pow_succ]; omega
    rw [e] at h
    rw [treeOf, treeOf, Nat.add_assoc, treeOf_congr f g j b n o fun r h1 h2 => h r h1 (by omega),
      treeOf_congr f g j b n (o + 2 ^ n) fun r h1 h2 => h r (by omega) (by omega)]

end Cert.Proof.Sums
-- ==== Proof.Trip.lean ====
module
public import proofs.«01_k».proof.Defs
public import Idealize.ShloMosaic.Lib.SparseCore.Quiescent
public import Idealize.ShloMosaic.Lib.Pipeline.Kit
public import Idealize.ShloMosaic.Lib.Tactic
public import Idealize.ShloMosaic.Lib.Writes
public import proofs.«01_k».proof.Proof.Gen.KernelIdeal.Skeleton
public import proofs.«01_k».proof.Proof.Sums
@[expose] public section
noncomputable section
namespace Cert.Proof.Tile
open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx
open Cert.Proof.Sums

/-! One trip of the inner loop: 128 lanes of the accumulator, in eight groups of sixteen, each gets the tree of the
    buffer's thirty-two rows added to it. -/

variable {F : FTy → Type} [FloatOps F] [Named F]

/-- The ghost state of the launch's handshakes, that of the normalizing kernel's pipeline, and that of the copies'
    counters beside them. -/
abbrev UH : Type := URounds (GSem nD τ sig) ℕ
abbrev UP : Type := URounds (GSem nD τ sig) Unit
abbrev UU : Type := UH × (UP × Counters)
local notation "𝕄" => MT nD τ sig (HIx 1) (Elt F) ℕ UU ℕ
abbrev 𝒱₀ : Variants := Variants.none
/-- The SparseCore and the subcore of a point of the grid, and the thread that runs there. -/
abbrev cV (L : grid0.Coords) : Fin τ.nSC := (L 0).castLE hcore0
abbrev jV (L : grid0.Coords) : Fin τ.nSub := (L 1).castLE hsub0
abbrev thrV (d : Dev nD) (L : grid0.Coords) : Thread nD τ := V d (cV L) (jV L)

/-- The lane at which group `g` of trip `t` begins. -/
abbrev lane (t : Fin k0_t2_loop.trips) (g : ℕ) : ℕ := k0_off35 t (BitVec.ofNat 32 g) 0

theorem lane_eq (t : Fin k0_t2_loop.trips) (g : ℕ) (hg : g < 8) : lane t g = 128 * t.val + 16 * g :=
  congrFun (k0_off35_eq t ⟨g, hg⟩) 0

theorem trips2 : k0_t2_loop.trips = 8 := by decide

theorem lane_le (t : Fin k0_t2_loop.trips) (g : ℕ) (hg : g < 8) : lane t g + 16 ≤ 1024 := by
  have h : t.val < 8 := lt_of_lt_of_eq t.isLt trips2
  rw [lane_eq t g hg]; omega

theorem row_inb (t : Fin k0_t2_loop.trips) (g : ℕ) (hg : g < 8) (o : ℕ) (ho : o < 32) :
    ∀ a, (![o, lane t g] : Fin 2 → ℕ) a + S1x16.size a ≤ S32x1024.size a
  | 0 => show o + 1 ≤ 32 from ho
  | 1 => lane_le t g hg

theorem acc_inb (t : Fin k0_t2_loop.trips) (g : ℕ) (hg : g < 8) : ∀ a, (![lane t g] : Fin 1 → ℕ) a + S16.size a ≤ S1024.size a
  | 0 => lane_le t g hg

/-- Sixteen lanes of row `o` of a buffer; sixteen lanes of the accumulator. -/
abbrev rowR (t : Fin k0_t2_loop.trips) (g : ℕ) (hg : g < 8) (o : ℕ) (ho : o < 32) : Rect S32x1024 :=
  Rect.unit (s := S32x1024) ![o, lane t g] S1x16.size (row_inb t g hg o ho)
abbrev accR (t : Fin k0_t2_loop.trips) (g : ℕ) (hg : g < 8) : Rect S1024 :=
  Rect.unit (s := S1024) ![lane t g] S16.size (acc_inb t g hg)

/-- The tree of a group's loads, as vectors of sixteen lanes. -/
def vtree (v : View sig .scVector .vmem S32x1024 .f32) (f : v.ty.Contents (Elt F)) (t : Fin k0_t2_loop.trips) (g : ℕ) (hg : g < 8) :
    (n o : ℕ) → o + 2 ^ n ≤ 32 → FVec F S16 .f32
  | 0, o, h => shapeCast S16 (v.readAt (Elt F) (rowR t g hg o (Nat.lt_of_succ_le h)).toLoadRect f) shapeCasts_S1x16_S16
  | n + 1, o, h => addf (vtree v f t g hg n o (by rw [Nat.pow_succ] at h; omega))
      (vtree v f t g hg n (o + 2 ^ n) (by rw [Nat.pow_succ] at h; omega))

/-- What a group stores. -/
def groupV (v : View sig .scVector .vmem S32x1024 .f32) (f : v.ty.Contents (Elt F)) (w : View sig .scVector .vmem S1024 .f32)
    (a : w.ty.Contents (Elt F)) (t : Fin k0_t2_loop.trips) (g : ℕ) (hg : g < 8) : FVec F S16 .f32 :=
  shapeCast S16 (addf (shapeCast S16 (w.readAt (Elt F) (accR t g hg).toLoadRect a) shapeCasts_S16_S16) (vtree v f t g hg 5 0 (by decide)))
    shapeCasts_S16_S16

/-- Row `r` of a buffer's contents. -/
def bufRow (X : S32x1024.Idx → F .f32) (r : ℕ) (j : Fin 1024) : F .f32 := X (ix2 (Fin.ofNat 32 r) j)

theorem vtree_apply (v : View sig .scVector .vmem S32x1024 .f32) (f : v.ty.Contents (Elt F)) (t : Fin k0_t2_loop.trips) (g : ℕ) (hg : g < 8)
    (x : Fin 16) (j : Fin 1024) (hj : j.val = lane t g + x.val) :
    ∀ n o h, vtree v f t g hg n o h (ix1 x) = treeOf (bufRow (v.read (Elt F) f)) n o j
  | 0, o, h => by
    have ho : o < 32 := Nat.lt_of_succ_le h
    show shapeCast S16 _ _ (ix1 x) = _
    refine (shapeCast_1a_a_apply _ _ x).trans ?_
    rw [View.readAt_apply]
    show _ = v.read (Elt F) f (ix2 (Fin.ofNat 32 o) j)
    congr 1
    funext a
    match a with
    | 0 =>
      refine Fin.ext ?_
      show o + 1 * 0 = o % 32
      rw [Nat.mod_eq_of_lt ho, Nat.mul_zero, Nat.add_zero]
    | 1 =>
      refine Fin.ext ?_
      show lane t g + 1 * x.val = j.val
      omega
  | n + 1, o, h => by
    show FloatOps.addf (vtree v f t g hg n o _ (ix1 x)) (vtree v f t g hg n (o + 2 ^ n) _ (ix1 x)) = _
    rw [vtree_apply v f t g hg x j hj n o, vtree_apply v f t g hg x j hj n (o + 2 ^ n), treeOf]

/-- One lane of the accumulator after a chunk: the chunk's tree added. -/
def stepV (X : S32x1024.Idx → F .f32) (A : S1024.Idx → F .f32) (y : S1024.Idx) : F .f32 :=
  FloatOps.addf (A y) (treeOf (bufRow X) 5 0 (y 0))

theorem groupV_apply (v : View sig .scVector .vmem S32x1024 .f32) (f : v.ty.Contents (Elt F)) (w : View sig .scVector .vmem S1024 .f32)
    (a : w.ty.Contents (Elt F)) (t : Fin k0_t2_loop.trips) (g : ℕ) (hg : g < 8) (x : (accR t g hg).shape.Idx) :
    groupV v f w a t g hg x = stepV (v.read (Elt F) f) (w.read (Elt F) a) ((accR t g hg).emb x) := by
  have hx : x = ix1 (n := 16) (x 0) := eq_ix1 x
  unfold groupV
  rw [shapeCast_self]
  show FloatOps.addf (shapeCast S16 _ _ x) (vtree v f t g hg 5 0 _ x) = _
  unfold stepV
  refine congrArg₂ FloatOps.addf (congrFun (shapeCast_self (s := S16) _ _) x) ?_
  rw [hx]
  refine vtree_apply v f t g hg (x 0) _ ?_ 5 0 _
  show lane t g + 1 * (x 0).val = _
  rw [Nat.one_mul]

/-- The stores of the first `n` groups, the newest first. -/
def stores (v : View sig .scVector .vmem S32x1024 .f32) (f : v.ty.Contents (Elt F)) (w : View sig .scVector .vmem S1024 .f32)
    (a : w.ty.Contents (Elt F)) (t : Fin k0_t2_loop.trips) : (n : ℕ) → n ≤ 8 → List (View.Piece (Elt F) S1024 .f32)
  | 0, _ => []
  | n + 1, h => ⟨accR t n h, groupV v f w a t n h⟩ :: stores v f w a t n (Nat.le_of_succ_le h)

theorem mem_stores (v : View sig .scVector .vmem S32x1024 .f32) (f : v.ty.Contents (Elt F)) (w : View sig .scVector .vmem S1024 .f32)
    (a : w.ty.Contents (Elt F)) (t : Fin k0_t2_loop.trips) (p : View.Piece (Elt F) S1024 .f32) :
    ∀ n h, p ∈ stores v f w a t n h ↔ ∃ g, ∃ hg : g < n, p = ⟨accR t g (hg.trans_le h), groupV v f w a t g (hg.trans_le h)⟩
  | 0, _ => ⟨fun h => absurd h List.not_mem_nil, fun ⟨_, hg, _⟩ => absurd hg (Nat.not_lt_zero _)⟩
  | n + 1, h => by
    rw [stores, List.mem_cons, mem_stores v f w a t p n (Nat.le_of_succ_le h)]
    constructor
    · rintro (rfl | ⟨g, hg, e⟩)
      · exact ⟨n, Nat.lt_succ_self n, rfl⟩
      · exact ⟨g, hg.trans (Nat.lt_succ_self n), e⟩
    · rintro ⟨g, hg, e⟩
      rcases Nat.lt_succ_iff_lt_or_eq.mp hg with h' | rfl
      · exact Or.inr ⟨g, h', e⟩
      · exact Or.inl e

/-- A trip's stores, read lane by lane. -/
theorem read_stores (v : View sig .scVector .vmem S32x1024 .f32) (f : v.ty.Contents (Elt F)) (w : View sig .scVector .vmem S1024 .f32)
    (a : w.ty.Contents (Elt F)) (t : Fin k0_t2_loop.trips) (y : S1024.Idx) :
    w.read (Elt F) (w.writes (Elt F) a (stores v f w a t 8 le_rfl)) y =
      if 128 * t.val ≤ (y 0).val ∧ (y 0).val < 128 * t.val + 128 then stepV (v.read (Elt F) f) (w.read (Elt F) a) y else w.read (Elt F) a y := by
  split
  · next h =>
    refine View.read_writes_apply_of_pieces (Val := Elt F) (e := .f32) _ _ (stepV (v.read (Elt F) f) (w.read (Elt F) a)) _ ?_ y ?_
    · intro p hp x
      obtain ⟨g, hg, rfl⟩ := (mem_stores v f w a t p 8 le_rfl).mp hp
      exact groupV_apply v f w a t g hg x
    · have hg : ((y 0).val - 128 * t.val) / 16 < 8 := by omega
      refine ⟨_, (mem_stores v f w a t _ 8 le_rfl).mpr ⟨_, hg, rfl⟩, ?_⟩
      refine (LoadRect.mem_set (r := (accR t _ hg).toLoadRect)).mpr fun b => ?_
      obtain rfl : b = 0 := Fin.fin_one_eq_zero b
      refine ⟨(y 0).val - lane t (((y 0).val - 128 * t.val) / 16), ?_, ?_⟩
      · show _ < 16
        rw [lane_eq t _ hg]; omega
      · show (y 0).val = lane t _ + 1 * _
        rw [lane_eq t _ hg]; omega
  · next h =>
    refine View.read_writes_apply_of_forall_not_mem _ _ y _ fun p hp => ?_
    obtain ⟨g, hg, rfl⟩ := (mem_stores v f w a t p 8 le_rfl).mp hp
    refine Rect.not_mem_set_of_axis _ y 0 (lane t g) 16 rfl rfl rfl ?_
    rw [lane_eq t g hg]; omega

set_option maxRecDepth 65536 in
/-- The trip's run: the buffer is kept, and the accumulator ends with contents the run finds. -/
def run (d : Dev nD) (i : grid0.Coords) (arg2 : Memref sig .scVector .hbm S32768x1024 .f32) (harg2 : arg2.IsWhole) (arg3 : Memref sig .scVector .hbm S16x2x1024 .f32) (harg3 : arg3.IsWhole) (arg4 : Memref sig .scVector .vmem S32x1024 .f32) (harg4 : arg4.IsWhole) (arg5 : Memref sig .scVector .vmem S32x1024 .f32) (harg5 : arg5.IsWhole) (arg6 : Memref sig .scVector .vmem S1024 .f32) (harg6 : arg6.IsWhole) (arg7 : DmaSems sig S_) (arg8 : DmaSems sig S_) (v232_r0 : DmaSems sig S_)
    (t : Fin k0_t2_loop.trips) (fb : Buf (Elt F) (arg4.view.loc (thrV d i))) (fa : Buf (Elt F) (arg6.view.loc (thrV d i))) :
    { L : Buf (Elt F) (arg6.view.loc (thrV d i)) //
      iprop((arg4.view.loc (thrV d i) ↦{fullShare} fb) ∗ (arg6.view.loc (thrV d i) ↦{fullShare} fa)) ⊢
      (wp frame (wpE (defs₀ (F := F)) 𝒱₀ (thrV d i) none) Set.univ
        (k0_t2_body (F := F) i arg2 harg2 arg3 harg3 arg4 harg4 arg5 harg5 arg6 harg6 arg7 arg8 v232_r0 t ())
        fun _ => iprop((arg4.view.loc (thrV d i) ↦{fullShare} fb) ∗ (arg6.view.loc (thrV d i) ↦{fullShare} L)) : sProp 𝕄) } := by
  refine ⟨?_, ?run⟩
  case run =>
    unfold k0_t2_body
    iintro ⟨Hb, Ha⟩
    sl_exec
    sl_step
    isplitl [Hb]; · iexact Hb
    iexact Ha

set_option maxRecDepth 65536 in
/-- What the run finds is the eight groups' stores. -/
theorem run_val (d : Dev nD) (i : grid0.Coords) (arg2 : Memref sig .scVector .hbm S32768x1024 .f32) (harg2 : arg2.IsWhole) (arg3 : Memref sig .scVector .hbm S16x2x1024 .f32) (harg3 : arg3.IsWhole) (arg4 : Memref sig .scVector .vmem S32x1024 .f32) (harg4 : arg4.IsWhole) (arg5 : Memref sig .scVector .vmem S32x1024 .f32) (harg5 : arg5.IsWhole) (arg6 : Memref sig .scVector .vmem S1024 .f32) (harg6 : arg6.IsWhole) (arg7 : DmaSems sig S_) (arg8 : DmaSems sig S_) (v232_r0 : DmaSems sig S_)
    (t : Fin k0_t2_loop.trips) (fb : Buf (Elt F) (arg4.view.loc (thrV d i))) (fa : Buf (Elt F) (arg6.view.loc (thrV d i))) :
    (run d i arg2 harg2 arg3 harg3 arg4 harg4 arg5 harg5 arg6 harg6 arg7 arg8 v232_r0 t fb fa).1 =
      arg6.view.writes (Elt F) fa (stores arg4.view fb arg6.view fa t 8 le_rfl) := rfl

end Cert.Proof.Tile
-- ==== Proof.Tile.lean ====
module
public import proofs.«01_k».proof.Proof.Trip
@[expose] public section
noncomputable section
namespace Cert.Proof.Tile
open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx
open Cert.Proof.Sums

/-! One tile's run: the accumulator zeroed, the tile's 1024 rows fetched in chunks of thirty-two through two buffers and
    summed, and the sums written to the tile's row of the partial sums. -/

variable {F : FTy → Type} [FloatOps F] [Named F]
local notation "𝕄" => MT nD τ sig (HIx 1) (Elt F) ℕ UU ℕ

abbrev hsM : Memref sig .scVector .hbm S32768x1024 .f32 := Memref.whole main_arg0_scv
abbrev ouM : Memref sig .scVector .hbm S16x2x1024 .f32 := Memref.whole main_v0_scv
abbrev bA : Memref sig .scVector .vmem S32x1024 .f32 := Memref.whole cc0_scratch0
abbrev bB : Memref sig .scVector .vmem S32x1024 .f32 := Memref.whole cc0_scratch1
abbrev acM : Memref sig .scVector .vmem S1024 .f32 := Memref.whole cc0_scratch2

/-! ## The inner loops -/

/-- The accumulator `A` with the first `n` lanes advanced by a chunk `X`. -/
def accAt (X : S32x1024.Idx → F .f32) (A : S1024.Idx → F .f32) (n : ℕ) (y : S1024.Idx) : F .f32 :=
  if (y 0).val < n then stepV X A y else A y

theorem accAt_zero (X : S32x1024.Idx → F .f32) (A : S1024.Idx → F .f32) : accAt X A 0 = A :=
  funext fun _ => if_neg (Nat.not_lt_zero _)
theorem accAt_full (X : S32x1024.Idx → F .f32) (A : S1024.Idx → F .f32) : accAt X A 1024 = stepV X A :=
  funext fun y => if_pos (y 0).isLt

/-- A trip's stores advance 128 lanes. -/
theorem writes_accAt (v : View sig .scVector .vmem S32x1024 .f32) (f : v.ty.Contents (Elt F)) (A : S1024.Idx → F .f32)
    (t : Fin k0_t2_loop.trips) :
    acM.view.writes (Elt F) (accAt (v.read (Elt F) f) A (128 * t.val)) (stores v f acM.view (accAt (v.read (Elt F) f) A (128 * t.val)) t 8 le_rfl)
      = accAt (v.read (Elt F) f) A (128 * (t.val + 1)) := by
  funext y
  refine (read_stores v f acM.view (accAt (v.read (Elt F) f) A (128 * t.val)) t y).trans ?_
  show (if 128 * t.val ≤ (y 0).val ∧ (y 0).val < 128 * t.val + 128 then
      FloatOps.addf (accAt (v.read (Elt F) f) A (128 * t.val) y) _ else accAt (v.read (Elt F) f) A (128 * t.val) y) = _
  unfold accAt
  by_cases h1 : (y 0).val < 128 * t.val
  · rw [if_neg (by omega), if_pos h1, if_pos (by omega)]
  · by_cases h2 : (y 0).val < 128 * t.val + 128
    · rw [if_pos (by omega), if_neg h1, if_pos (by omega)]; rfl
    · rw [if_neg (by omega), if_neg h1, if_neg (by omega)]

/-- The inner loop's invariant: the buffer at `f`, the accumulator advanced over the first `128 * j` lanes. -/
def inv2 (d : Dev nD) (i : grid0.Coords) (buf : Memref sig .scVector .vmem S32x1024 .f32) (f : Buf (Elt F) (buf.view.loc (thrV d i)))
    (A : S1024.Idx → F .f32) (j : ℕ) (_ : Unit) : sProp 𝕄 :=
  iprop((buf.view.loc (thrV d i) ↦{fullShare} f) ∗ (acM.view.loc (thrV d i) ↦{fullShare} accAt (buf.view.read (Elt F) f) A (128 * j)))

theorem trip2 (d : Dev nD) (i : grid0.Coords) (buf buf' : Memref sig .scVector .vmem S32x1024 .f32) (hbuf : buf.IsWhole) (hbuf' : buf'.IsWhole)
    (f : Buf (Elt F) (buf.view.loc (thrV d i))) (A : S1024.Idx → F .f32) (t : Fin k0_t2_loop.trips) :
    inv2 d i buf f A t.val () ⊢ (wp frame (wpE (defs₀ (F := F)) 𝒱₀ (thrV d i) none) Set.univ
      (k0_t2_body (F := F) i hsM (Memref.isWhole_whole _) ouM (Memref.isWhole_whole _) buf hbuf buf' hbuf' acM (Memref.isWhole_whole _) cc0_scratch3 cc0_scratch4 cc0_scoped0 t ())
      (inv2 d i buf f A (t.val + 1)) : sProp 𝕄) := by
  refine (run d i hsM _ ouM _ buf hbuf buf' hbuf' acM _ cc0_scratch3 cc0_scratch4 cc0_scoped0 t f _).2.trans (wp_mono frame _ _ fun _ => ?_)
  refine Entails.of_eq ?_
  rw [run_val]
  unfold inv2
  rw [← writes_accAt]

set_option maxRecDepth 65536 in
/-- The second buffer's inner loop is the first's, with the buffers exchanged. -/
theorem t3_eq_t2 (i : grid0.Coords) (arg2 : Memref sig .scVector .hbm S32768x1024 .f32) (harg2 : arg2.IsWhole) (arg3 : Memref sig .scVector .hbm S16x2x1024 .f32) (harg3 : arg3.IsWhole) (arg4 : Memref sig .scVector .vmem S32x1024 .f32) (harg4 : arg4.IsWhole) (arg5 : Memref sig .scVector .vmem S32x1024 .f32) (harg5 : arg5.IsWhole) (arg6 : Memref sig .scVector .vmem S1024 .f32) (harg6 : arg6.IsWhole) (arg7 : DmaSems sig S_) (arg8 : DmaSems sig S_) (v232_r0 : DmaSems sig S_) :
    k0_t3_body (F := F) i arg2 harg2 arg3 harg3 arg4 harg4 arg5 harg5 arg6 harg6 arg7 arg8 v232_r0
      = k0_t2_body (F := F) i arg2 harg2 arg3 harg3 arg5 harg5 arg4 harg4 arg6 harg6 arg7 arg8 v232_r0 := rfl

set_option maxRecDepth 65536 in
theorem trip3 (d : Dev nD) (i : grid0.Coords) (buf' buf : Memref sig .scVector .vmem S32x1024 .f32) (hbuf' : buf'.IsWhole) (hbuf : buf.IsWhole)
    (f : Buf (Elt F) (buf.view.loc (thrV d i))) (A : S1024.Idx → F .f32) (t : Fin k0_t3_loop.trips) :
    inv2 d i buf f A t.val () ⊢ (wp frame (wpE (defs₀ (F := F)) 𝒱₀ (thrV d i) none) Set.univ
      (k0_t3_body (F := F) i hsM (Memref.isWhole_whole _) ouM (Memref.isWhole_whole _) buf' hbuf' buf hbuf acM (Memref.isWhole_whole _) cc0_scratch3 cc0_scratch4 cc0_scoped0 t ())
      (inv2 d i buf f A (t.val + 1)) : sProp 𝕄) := by
  rw [t3_eq_t2]
  exact trip2 d i buf buf' hbuf hbuf' f A t

/-! ## The chunks -/

/-- The tile's first row. -/
def base (i : grid0.Coords) : ℕ := 1024 * (16 * (i 0).val + (i 1).val)

theorem base_le (i : grid0.Coords) : base i + 1024 ≤ 32768 := by
  have h0 : (i 0).val < 2 := (i 0).isLt
  have h1 : (i 1).val < 16 := (i 1).isLt
  unfold base; omega

/-- Where chunk `c` begins. -/
abbrev ckOff (i : grid0.Coords) (c : ℕ) : Fin 2 → ℕ := ![base i + 32 * c, 0]

theorem ckOff_inb (i : grid0.Coords) (c : ℕ) (hc : c < 32) : ∀ a, ckOff i c a + S32x1024.size a ≤ S32768x1024.size a
  | 0 => by have := base_le i; show base i + 32 * c + 32 ≤ 32768; omega
  | 1 => le_rfl

theorem off1_eq : ∀ (i : grid0.Coords) (r : Fin 2), k0_off1 i (BitVec.ofNat 32 (32 * r.val)) = ckOff i r.val := by decide +kernel
theorem off2_eq : ∀ (i : grid0.Coords) (t : Fin k0_t1_loop.trips) (r : Fin 2), k0_off2 i t (BitVec.ofNat 32 r.val) = ckOff i (2 * t.val + r.val) := by
  decide +kernel
theorem cond1_iff : ∀ t : Fin k0_t1_loop.trips, k0_cond1 t = 1#1 ↔ t.val + 1 < 16 := by decide +kernel
theorem cond2_iff : ∀ t : Fin k0_t1_loop.trips, k0_cond2 t = 1#1 ↔ t.val + 1 < 16 := by decide +kernel
theorem off36_eq : ∀ (i : grid0.Coords) (t : Fin k0_t1_loop.trips), k0_cond1 t = 1#1 → k0_off36 i t = ckOff i (2 * (t.val + 1)) := by decide +kernel
theorem off70_eq : ∀ (i : grid0.Coords) (t : Fin k0_t1_loop.trips), k0_cond2 t = 1#1 → k0_off70 i t = ckOff i (2 * (t.val + 1) + 1) := by decide +kernel

/-- The chunk at an offset, as a view of the whole array. -/
abbrev ck (off : Fin 2 → ℕ) (inb : ∀ a, off a + S32x1024.size a ≤ S32768x1024.size a) : Memref sig .scVector .hbm S32x1024 .f32 :=
  hsM.slice (Rect.unit (s := S32768x1024) off S32x1024.size inb) (fun _ => rfl)

/-- A slot whose fetch is under way: what the fetch will deliver, and the rest of the array's read share. -/
def busy (d : Dev nD) (i : grid0.Coords) (hs : Buf (Elt F) (hsM.view.loc (thrV d i))) (sm : DmaSem sig) (buf : Memref sig .scVector .vmem S32x1024 .f32)
    (q : PosShare TreeShare) (g : (off : Fin 2 → ℕ) → (∀ a, off a + S32x1024.size a ≤ S32768x1024.size a) → Buf (Elt F) (buf.view.loc (thrV d i)))
    (off : Fin 2 → ℕ) (inb : ∀ a, off a + S32x1024.size a ≤ S32768x1024.size a) : sProp 𝕄 :=
  iprop(Transfers.Flight countersEmb (thrV d i) (SemLoc.dma sm) (none : HIx 1) 1048576
      iprop((buf.view.loc (thrV d i) ↦{fullShare} g off inb) ∗ (hsM.view.loc (thrV d i) ↦[(ck off inb).view.set]{q} hs))
    ∗ (hsM.view.loc (thrV d i) ↦[Finset.univ \ (ck off inb).view.set]{q} hs))

theorem busy_elim (d : Dev nD) (i : grid0.Coords) (hs : Buf (Elt F) (hsM.view.loc (thrV d i))) (sm : DmaSem sig) (buf : Memref sig .scVector .vmem S32x1024 .f32)
    (q : PosShare TreeShare) (g : (off : Fin 2 → ℕ) → (∀ a, off a + S32x1024.size a ≤ S32768x1024.size a) → Buf (Elt F) (buf.view.loc (thrV d i)))
    (off : Fin 2 → ℕ) (inb : ∀ a, off a + S32x1024.size a ≤ S32768x1024.size a) :
    (busy d i hs sm buf q g off inb : sProp 𝕄) ⊢
      iprop(Transfers.Flight countersEmb (thrV d i) (SemLoc.dma sm) (none : HIx 1) 1048576
        iprop((buf.view.loc (thrV d i) ↦{fullShare} g off inb) ∗ (hsM.view.loc (thrV d i) ↦[(ck off inb).view.set]{q} hs))
      ∗ (hsM.view.loc (thrV d i) ↦[Finset.univ \ (ck off inb).view.set]{q} hs)) := Entails.rfl

/-- A free slot. -/
def free (d : Dev nD) (i : grid0.Coords) (hs : Buf (Elt F) (hsM.view.loc (thrV d i))) (sm : DmaSem sig) (buf : Memref sig .scVector .vmem S32x1024 .f32)
    (q : PosShare TreeShare) : sProp 𝕄 :=
  iprop(semVal (thrV d i, SemLoc.dma sm) 0 ∗ (∃ f, buf.view.loc (thrV d i) ↦{fullShare} f) ∗ (hsM.view.loc (thrV d i) ↦{q} hs))

theorem busy_congr (d : Dev nD) (i : grid0.Coords) (hs : Buf (Elt F) (hsM.view.loc (thrV d i))) (sm : DmaSem sig) (buf : Memref sig .scVector .vmem S32x1024 .f32)
    (q : PosShare TreeShare) (g : (off : Fin 2 → ℕ) → (∀ a, off a + S32x1024.size a ≤ S32768x1024.size a) → Buf (Elt F) (buf.view.loc (thrV d i)))
    {off off' : Fin 2 → ℕ} (inb : ∀ a, off a + S32x1024.size a ≤ S32768x1024.size a) (inb' : ∀ a, off' a + S32x1024.size a ≤ S32768x1024.size a)
    (h : off = off') : busy d i hs sm buf q g off inb = busy d i hs sm buf q g off' inb' := by subst h; rfl

/-- What a chunk's fetch leaves in each buffer. -/
abbrev gA (d : Dev nD) (i : grid0.Coords) (hs : Buf (Elt F) (hsM.view.loc (thrV d i))) (off : Fin 2 → ℕ)
    (inb : ∀ a, off a + S32x1024.size a ≤ S32768x1024.size a) : Buf (Elt F) (bA.view.loc (thrV d i)) := (ck off inb).view.read (Elt F) hs
abbrev gB (d : Dev nD) (i : grid0.Coords) (hs : Buf (Elt F) (hsM.view.loc (thrV d i))) (off : Fin 2 → ℕ)
    (inb : ∀ a, off a + S32x1024.size a ≤ S32768x1024.size a) : Buf (Elt F) (bB.view.loc (thrV d i)) := (ck off inb).view.read (Elt F) hs

/-- The array's rows; the zero the accumulator starts from. -/
def hsRow (hs : S32768x1024.Idx → F .f32) (r : ℕ) (j : Fin 1024) : F .f32 := hs (ix2 (Fin.ofNat 32768 r) j)
def zf : F .f32 := FloatOps.ofBits .f32 0x00000000#32

/-- The accumulator after `c` chunks. -/
def accC (i : grid0.Coords) (hs : S32768x1024.Idx → F .f32) (c : ℕ) (y : S1024.Idx) : F .f32 := totalOf (hsRow hs) zf (base i) c (y 0)

/-- A fetched chunk's step takes the accumulator one chunk further. -/
theorem step_ck (i : grid0.Coords) (hs : S32768x1024.Idx → F .f32) (c : ℕ) (hc : c < 32) (off : Fin 2 → ℕ)
    (inb : ∀ a, off a + S32x1024.size a ≤ S32768x1024.size a) (h : off = ckOff i c) :
    stepV ((ck off inb).view.read (Elt F) hs) (accC i hs c) = accC i hs (c + 1) := by
  subst h
  funext y
  refine congrArg (FloatOps.addf (accC i hs c y)) ?_
  refine treeOf_congr _ _ _ _ 5 0 fun r _ hr => ?_
  have hb := base_le i
  show (ck (ckOff i c) inb).view.read (Elt F) hs (ix2 (Fin.ofNat 32 r) (y 0)) = hs (ix2 (Fin.ofNat 32768 (base i + 32 * c + r)) (y 0))
  show hs _ = hs _
  congr 1
  funext a
  match a with
  | 0 =>
    refine Fin.ext ?_
    show base i + 32 * c + 1 * (r % 32) = (base i + 32 * c + r) % 32768
    have : r < 32 := by simpa using hr
    rw [Nat.mod_eq_of_lt this, Nat.mod_eq_of_lt (by omega)]; omega
  | 1 => exact Fin.ext (show 0 + 1 * (y 0).val = (y 0).val by omega)

/-! ## The outer loop -/

theorem trips1 : k0_t1_loop.trips = 16 := by decide

/-- The outer loop's invariant at trip `k`: chunks `2 * k` and `2 * k + 1` on their way to the two buffers (nothing after the
    last trip), the accumulator at the sum of the chunks before them. -/
def inv1 (d : Dev nD) (i : grid0.Coords) (hs : Buf (Elt F) (hsM.view.loc (thrV d i))) (q1 q2 : PosShare TreeShare)
    (O : CellTallies nD τ sig (HIx 1)) (W : Waits sig (HIx 1)) (k : ℕ) (_ : PUnit) : sProp 𝕄 :=
  iprop(Transfers.MayWaits (thrV d i) (none : HIx 1) O
    ∗ (if h : k < 16 then
        iprop(busy d i hs cc0_scratch3.sem bA q1 (gA d i hs) (ckOff i (2 * k)) (ckOff_inb i (2 * k) (by omega))
          ∗ busy d i hs cc0_scratch4.sem bB q2 (gB d i hs) (ckOff i (2 * k + 1)) (ckOff_inb i (2 * k + 1) (by omega)))
       else iprop(free d i hs cc0_scratch3.sem bA q1 ∗ free d i hs cc0_scratch4.sem bB q2))
    ∗ (acM.view.loc (thrV d i) ↦{fullShare} accC i hs (2 * k))
    ∗ ∃ W', ⌜∀ p ∈ W', p ∈ W ∨ p.2 = none⌝ ∗ owes (thrV d i) O W')

/-- A fetch just started is a busy slot, whatever the buffer held; first buffer, second buffer. -/
theorem busy_introA (d : Dev nD) (i : grid0.Coords) (hs : Buf (Elt F) (hsM.view.loc (thrV d i))) (q : PosShare TreeShare)
    (f : Buf (Elt F) (bA.view.loc (thrV d i))) (off : Fin 2 → ℕ) (inb : ∀ a, off a + S32x1024.size a ≤ S32768x1024.size a)
    (w : S32x1024.Idx → Elt F .f32) (hw : w = (ck off inb).view.read (Elt F) hs) :
    iprop(Transfers.Flight countersEmb (thrV d i) (SemLoc.dma cc0_scratch3.sem) (none : HIx 1) 1048576
        iprop((bA.view.loc (thrV d i) ↦{fullShare} View.write (Elt F) bA.view f w Finset.univ) ∗ (hsM.view.loc (thrV d i) ↦[(ck off inb).view.set]{q} hs))
      ∗ (hsM.view.loc (thrV d i) ↦[Finset.univ \ (ck off inb).view.set]{q} hs)) ⊢ (busy d i hs cc0_scratch3.sem bA q (gA d i hs) off inb : sProp 𝕄) := by
  subst hw
  refine Entails.of_eq ?_
  unfold busy
  rw [show View.write (Elt F) bA.view f ((ck off inb).view.read (Elt F) hs) Finset.univ = gA d i hs off inb from View.write_whole_univ _ _ _]

theorem busy_introB (d : Dev nD) (i : grid0.Coords) (hs : Buf (Elt F) (hsM.view.loc (thrV d i))) (q : PosShare TreeShare)
    (f : Buf (Elt F) (bB.view.loc (thrV d i))) (off : Fin 2 → ℕ) (inb : ∀ a, off a + S32x1024.size a ≤ S32768x1024.size a)
    (w : S32x1024.Idx → Elt F .f32) (hw : w = (ck off inb).view.read (Elt F) hs) :
    iprop(Transfers.Flight countersEmb (thrV d i) (SemLoc.dma cc0_scratch4.sem) (none : HIx 1) 1048576
        iprop((bB.view.loc (thrV d i) ↦{fullShare} View.write (Elt F) bB.view f w Finset.univ) ∗ (hsM.view.loc (thrV d i) ↦[(ck off inb).view.set]{q} hs))
      ∗ (hsM.view.loc (thrV d i) ↦[Finset.univ \ (ck off inb).view.set]{q} hs)) ⊢ (busy d i hs cc0_scratch4.sem bB q (gB d i hs) off inb : sProp 𝕄) := by
  subst hw
  refine Entails.of_eq ?_
  unfold busy
  rw [show View.write (Elt F) bB.view f ((ck off inb).view.read (Elt F) hs) Finset.univ = gB d i hs off inb from View.write_whole_univ _ _ _]

/-- The inner loops' exits: the accumulator one chunk further. -/
theorem exit2 (X : S32x1024.Idx → F .f32) (A B : S1024.Idx → F .f32) (h : stepV X A = B) :
    accAt X A (128 * Scf.trips k0_t2_loop.lb k0_t2_loop.ub k0_t2_loop.st) = B := by
  rw [← h, ← accAt_full, show Scf.trips k0_t2_loop.lb k0_t2_loop.ub k0_t2_loop.st = 8 from by decide]
theorem exit3 (X : S32x1024.Idx → F .f32) (A B : S1024.Idx → F .f32) (h : stepV X A = B) :
    accAt X A (128 * Scf.trips k0_t3_loop.lb k0_t3_loop.ub k0_t3_loop.st) = B := by
  rw [← h, ← accAt_full, show Scf.trips k0_t3_loop.lb k0_t3_loop.ub k0_t3_loop.st = 8 from by decide]

/-- Two more waits at the index `none` recorded. -/
theorem waits_insert (W W' : Waits sig (HIx 1)) (h : ∀ p ∈ W', p ∈ W ∨ p.2 = none) (a : SemLoc sig) :
    ∀ p ∈ insert (a, (none : HIx 1)) W', p ∈ W ∨ p.2 = none := by
  intro p hp
  rcases Finset.mem_insert.mp hp with rfl | hp
  · exact Or.inr rfl
  · exact h p hp

set_option maxRecDepth 65536 in
theorem trip1 (d : Dev nD) (i : grid0.Coords) (hs : Buf (Elt F) (hsM.view.loc (thrV d i))) (q1 q2 : PosShare TreeShare)
    (O : CellTallies nD τ sig (HIx 1)) (W : Waits sig (HIx 1)) (t : Fin k0_t1_loop.trips) :
    inv1 d i hs q1 q2 O W t.val () ⊢ (wp frame (wpE (defs₀ (F := F)) 𝒱₀ (thrV d i) none) Set.univ
      (k0_t1_body (F := F) i hsM (Memref.isWhole_whole _) ouM (Memref.isWhole_whole _) bA (Memref.isWhole_whole _) bB (Memref.isWhole_whole _) acM (Memref.isWhole_whole _) cc0_scratch3 cc0_scratch4 cc0_scoped0 t ())
      (inv1 d i hs q1 q2 O W (t.val + 1)) : sProp 𝕄) := by
  have ht : t.val < 16 := lt_of_lt_of_eq t.isLt trips1
  have eA : ckOff i (2 * t.val) = k0_off2 i t 0#32 := (off2_eq i t 0).symm
  have eB : ckOff i (2 * t.val + 1) = k0_off2 i t 1#32 := (off2_eq i t 1).symm
  unfold inv1
  have nA : ∀ a, k0_off2 i t 0#32 a + S32x1024.size a ≤ S32768x1024.size a := k0_off2_inb i t 0
  have nB : ∀ a, k0_off2 i t 1#32 a + S32x1024.size a ≤ S32768x1024.size a := k0_off2_inb i t 1
  rw [dif_pos ht, busy_congr d i hs _ bA q1 _ _ nA eA, busy_congr d i hs _ bB q2 _ _ nB eB]
  have sA : stepV (bA.view.read (Elt F) (gA d i hs (k0_off2 i t 0#32) nA)) (accC i hs (2 * t.val)) = accC i hs (2 * t.val + 1) :=
    step_ck i hs (2 * t.val) (by omega) _ nA eA.symm
  have sB : stepV (bB.view.read (Elt F) (gB d i hs (k0_off2 i t 1#32) nB)) (accC i hs (2 * t.val + 1)) = accC i hs (2 * t.val + 1 + 1) :=
    step_ck i hs (2 * t.val + 1) (by omega) _ nB eB.symm
  unfold k0_t1_body
  iintro ⟨Hmw, ⟨HA', HB'⟩, Ha, %W', %hW', HO⟩
  ihave HA' := (busy_elim d i hs cc0_scratch3.sem bA q1 (gA d i hs) (k0_off2 i t 0#32) nA) $$ HA'
  icases HA' with ⟨HFA, HRA⟩
  ihave HB' := (busy_elim d i hs cc0_scratch4.sem bB q2 (gB d i hs) (k0_off2 i t 1#32) nB) $$ HB'
  icases HB' with ⟨HFB, HRB⟩
  by_cases hc : t.val + 1 < 16
  · have k0_h1 : k0_cond1 t = 1#1 := (cond1_iff t).mpr hc
    have k0_h2 : k0_cond2 t = 1#1 := (cond2_iff t).mpr hc
    have eA' : k0_off36 i t = ckOff i (2 * (t.val + 1)) := off36_eq i t k0_h1
    have eB' : k0_off70 i t = ckOff i (2 * (t.val + 1) + 1) := off70_eq i t k0_h2
    sl_exec
    sl_for (inv2 d i bA (gA d i hs (k0_off2 i t 0#32) nA) (accC i hs (2 * t.val))) $$ [HFA_dst Ha]
    case region => exact fun j _ => trip2 d i bA bB (Memref.isWhole_whole _) (Memref.isWhole_whole _) _ _ j
    · unfold inv2
      rw [Nat.mul_zero, accAt_zero]
      isplitl [HFA_dst]; · iexact HFA_dst
      iexact Ha
    iintro %_ HI
    unfold inv2
    icases HI with ⟨HA, Ha⟩
    ihave Ha := (Entails.of_eq (congrArg (fun f => (acM.view.loc (thrV d i) ↦{fullShare} f : sProp 𝕄)) (exit2 _ _ _ sA))) $$ Ha
    sl_exec
    sl_for (inv2 d i bB (gB d i hs (k0_off2 i t 1#32) nB) (accC i hs (2 * t.val + 1))) $$ [HFB_dst Ha]
    case region => exact fun j _ => trip3 d i bA bB (Memref.isWhole_whole _) (Memref.isWhole_whole _) _ _ j
    · unfold inv2
      rw [Nat.mul_zero, accAt_zero]
      isplitl [HFB_dst]; · iexact HFB_dst
      iexact Ha
    iintro %_ HI
    unfold inv2
    icases HI with ⟨HB, Ha⟩
    ihave Ha := (Entails.of_eq (congrArg (fun f => (acM.view.loc (thrV d i) ↦{fullShare} f : sProp 𝕄)) (exit3 _ _ _ sB))) $$ Ha
    sl_exec
    sl_step
    ihave HbA := (busy_introA d i hs q1 _ _ (k0_off36_inb i t k0_h1) _ rfl) $$ [HFA HRA]
    · isplitl [HFA]; · iexact HFA
      iexact HRA
    ihave HbB := (busy_introB d i hs q2 _ _ (k0_off70_inb i t k0_h2) _ rfl) $$ [HFB HRB]
    · isplitl [HFB]; · iexact HFB
      iexact HRB
    isplitl [Hmw]; · iexact Hmw
    isplitl [HbA HbB]
    · rw [dif_pos hc]
      isplitl [HbA]
      · iapply (Entails.of_eq (busy_congr d i hs cc0_scratch3.sem bA q1 (gA d i hs) (k0_off36_inb i t k0_h1) (ckOff_inb i (2 * (t.val + 1)) (by omega)) eA')); iexact HbA
      · iapply (Entails.of_eq (busy_congr d i hs cc0_scratch4.sem bB q2 (gB d i hs) (k0_off70_inb i t k0_h2) (ckOff_inb i (2 * (t.val + 1) + 1) (by omega)) eB')); iexact HbB
    isplitl [Ha]; · iexact Ha
    iexists _; isplitr
    rotate_left
    · iexact HO
    · ipureintro; exact waits_insert _ _ (waits_insert _ _ hW' _) _
  · have k0_h1 : ¬ k0_cond1 t = 1#1 := fun h => hc ((cond1_iff t).mp h)
    have k0_h2 : ¬ k0_cond2 t = 1#1 := fun h => hc ((cond2_iff t).mp h)
    sl_exec
    sl_for (inv2 d i bA (gA d i hs (k0_off2 i t 0#32) nA) (accC i hs (2 * t.val))) $$ [HFA_dst Ha]
    case region => exact fun j _ => trip2 d i bA bB (Memref.isWhole_whole _) (Memref.isWhole_whole _) _ _ j
    · unfold inv2
      rw [Nat.mul_zero, accAt_zero]
      isplitl [HFA_dst]; · iexact HFA_dst
      iexact Ha
    iintro %_ HI
    unfold inv2
    icases HI with ⟨HA, Ha⟩
    ihave Ha := (Entails.of_eq (congrArg (fun f => (acM.view.loc (thrV d i) ↦{fullShare} f : sProp 𝕄)) (exit2 _ _ _ sA))) $$ Ha
    sl_exec
    sl_for (inv2 d i bB (gB d i hs (k0_off2 i t 1#32) nB) (accC i hs (2 * t.val + 1))) $$ [HFB_dst Ha]
    case region => exact fun j _ => trip3 d i bA bB (Memref.isWhole_whole _) (Memref.isWhole_whole _) _ _ j
    · unfold inv2
      rw [Nat.mul_zero, accAt_zero]
      isplitl [HFB_dst]; · iexact HFB_dst
      iexact Ha
    iintro %_ HI
    unfold inv2
    icases HI with ⟨HB, Ha⟩
    ihave Ha := (Entails.of_eq (congrArg (fun f => (acM.view.loc (thrV d i) ↦{fullShare} f : sProp 𝕄)) (exit3 _ _ _ sB))) $$ Ha
    sl_exec
    sl_step
    isplitl [Hmw]; · iexact Hmw
    isplitl [HFA HA HRA HFB HB HRB]
    · rw [dif_neg hc]
      unfold free
      isplitl [HFA HA HRA]
      · isplitl [HFA]; · iexact HFA
        isplitl [HA]; · iexists _; iexact HA
        iexact HRA
      · isplitl [HFB]; · iexact HFB
        isplitl [HB]; · iexists _; iexact HB
        iexact HRB
    isplitl [Ha]; · iexact Ha
    iexists _; isplitr
    rotate_left
    · iexact HO
    · ipureintro; exact waits_insert _ _ (waits_insert _ _ hW' _) _

end Cert.Proof.Tile
-- ==== Proof.Body.lean ====
module
public import proofs.«01_k».proof.Proof.Tile
@[expose] public section
noncomputable section
namespace Cert.Proof.Tile
open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx
open Cert.Proof.Sums

/-! One tile's whole run. -/

variable {F : FTy → Type} [FloatOps F] [Named F]
local notation "𝕄" => MT nD τ sig (HIx 1) (Elt F) ℕ UU ℕ

/-! ## The zeroed accumulator -/

theorem zero_inb (g : ℕ) (hg : g < 64) : ∀ a, (![16 * g] : Fin 1 → ℕ) a + S16.size a ≤ S1024.size a
  | 0 => by show 16 * g + 16 ≤ 1024; omega

/-- The first `n` of the accumulator's sixty-four zero stores, the newest first. -/
def zeros : (n : ℕ) → n ≤ 64 → List (View.Piece (Elt F) S1024 .f32)
  | 0, _ => []
  | n + 1, h => ⟨Rect.unit (s := S1024) ![16 * n] S16.size (zero_inb n h), fun _ => zf⟩ :: zeros n (Nat.le_of_succ_le h)

theorem mem_zeros (p : View.Piece (Elt F) S1024 .f32) :
    ∀ n h, p ∈ zeros (F := F) n h ↔ ∃ g, ∃ hg : g < n, p = ⟨Rect.unit (s := S1024) ![16 * g] S16.size (zero_inb g (hg.trans_le h)), fun _ => zf⟩
  | 0, _ => ⟨fun h => absurd h List.not_mem_nil, fun ⟨_, hg, _⟩ => absurd hg (Nat.not_lt_zero _)⟩
  | n + 1, h => by
    rw [zeros, List.mem_cons, mem_zeros p n (Nat.le_of_succ_le h)]
    constructor
    · rintro (rfl | ⟨g, hg, e⟩)
      · exact ⟨n, Nat.lt_succ_self n, rfl⟩
      · exact ⟨g, hg.trans (Nat.lt_succ_self n), e⟩
    · rintro ⟨g, hg, e⟩
      rcases Nat.lt_succ_iff_lt_or_eq.mp hg with h' | rfl
      · exact Or.inr ⟨g, h', e⟩
      · exact Or.inl e

theorem writes_zeros (i : grid0.Coords) (hs : S32768x1024.Idx → F .f32) (f : acM.view.ty.Contents (Elt F)) :
    acM.view.writes (Elt F) f (zeros 64 le_rfl) = accC i hs (2 * 0) := by
  funext y
  show acM.view.read (Elt F) (acM.view.writes (Elt F) f (zeros 64 le_rfl)) y = zf
  refine View.read_writes_apply_of_pieces (Val := Elt F) (e := .f32) acM.view _ (fun _ => zf) _ ?_ y ?_
  · intro p hp x
    obtain ⟨g, hg, rfl⟩ := (mem_zeros p 64 le_rfl).mp hp
    rfl
  · have hy : (y 0).val < 1024 := (y 0).isLt
    have hg : (y 0).val / 16 < 64 := by omega
    refine ⟨_, (mem_zeros _ 64 le_rfl).mpr ⟨_, hg, rfl⟩, ?_⟩
    refine (LoadRect.mem_set (r := (Rect.unit (s := S1024) ![16 * ((y 0).val / 16)] S16.size (zero_inb _ hg)).toLoadRect)).mpr fun b => ?_
    obtain rfl : b = 0 := Fin.fin_one_eq_zero b
    refine ⟨(y 0).val % 16, ?_, ?_⟩
    · show _ < 16
      omega
    · show (y 0).val = 16 * ((y 0).val / 16) + 1 * _
      omega

/-! ## The output's piece -/

/-- The tile's row of the partial sums, as the tile slices it. -/
abbrev oRow (i : grid0.Coords) : Memref sig .scVector .hbm S1024 .f32 :=
  (ouM.slice (Rect.unit (s := S16x2x1024) (k0_off71 i) S1x1x1024.size (k0_off71_inb i)) (fun _ => rfl)).squeeze S1024 squeezes_S1x1x1024_S1024

/-- The partial sums: row `(b, h)` is the total of the 1024 rows from row `1024 * (2 * b + h)` on. -/
def vout (hs : S32768x1024.Idx → F .f32) (y : S16x2x1024.Idx) : F .f32 :=
  totalOf (hsRow hs) zf (1024 * (2 * (y 0).val + (y 1).val)) 32 (y 2)

theorem off71_eq : ∀ i : grid0.Coords, k0_off71 i = ![(16 * (i 0).val + (i 1).val) / 2, (16 * (i 0).val + (i 1).val) % 2, 0] := by decide +kernel

/-- Dropping the two unit axes keeps the lane. -/
theorem reshape_lane (h : S1024.numel = S1x1x1024.numel) (l : Fin 1024) : Shape.reshapeEquiv h (ix1 (n := 1024) l) = ix3 (0 : Fin 1) (0 : Fin 1) l :=
  Shape.reshapeEquiv_eq_of_rowMajor h (by
    rw [Shape.rowMajor_val_three, Shape.rowMajor_val_one]
    show ((0 : ℕ) * 1 + 0) * 1024 + l.val = l.val
    omega)

/-- Where lane `l` of the tile's row lies. -/
theorem oRow_emb (i : grid0.Coords) (l : Fin 1024) :
    ((oRow i).view.emb (ix1 (n := 1024) l) 0).val = (16 * (i 0).val + (i 1).val) / 2
      ∧ ((oRow i).view.emb (ix1 (n := 1024) l) 1).val = (16 * (i 0).val + (i 1).val) % 2
      ∧ (oRow i).view.emb (ix1 (n := 1024) l) 2 = l := by
  have e : (oRow i).view.emb (ix1 (n := 1024) l)
      = (Rect.unit (s := S16x2x1024) (k0_off71 i) S1x1x1024.size (k0_off71_inb i)).emb (Shape.reshapeEquiv (Shape.Squeezes.numel_eq squeezes_S1x1x1024_S1024) (ix1 (n := 1024) l)) := rfl
  rw [e, reshape_lane]
  refine ⟨?_, ?_, Fin.ext ?_⟩
  · show k0_off71 i 0 + 1 * 0 = _
    rw [off71_eq]; rfl
  · show k0_off71 i 1 + 1 * 0 = _
    rw [off71_eq]; rfl
  · show k0_off71 i 2 + 1 * l.val = _
    rw [off71_eq]; show 0 + 1 * l.val = l.val; omega

/-- The tile's sums, written to its row, are the partial sums there. -/
theorem writes_oRow (i : grid0.Coords) (hs : S32768x1024.Idx → F .f32) (fo : (oRow i).view.ty.Contents (Elt F)) (w : S1024.Idx → F .f32)
    (hw : w = accC i hs 32) (y : (oRow i).view.ty.Idx) (hy : y ∈ (oRow i).view.set) :
    (oRow i).view.writes (Elt F) fo [⟨Rect.whole S1024, w⟩] y = vout hs y := by
  obtain ⟨x, -, rfl⟩ := Finset.mem_map.mp hy
  have hr : (oRow i).view.read (Elt F) ((oRow i).view.writes (Elt F) fo [⟨Rect.whole S1024, w⟩]) x = accC i hs 32 x := by
    refine View.read_writes_apply_of_pieces (Val := Elt F) (e := .f32) _ _ (accC i hs 32) _ ?_ x ?_
    · intro p hp z
      obtain rfl := List.mem_singleton.mp hp
      rw [hw]
      refine congrArg (accC i hs 32) (funext fun a => ?_ : z = (Rect.whole S1024).emb z)
      refine Fin.ext ?_
      show (z a).val = 0 + 1 * (z a).val
      omega
    · refine ⟨_, List.mem_singleton.mpr rfl, ?_⟩
      refine (LoadRect.mem_set (r := (Rect.whole S1024).toLoadRect)).mpr fun b => ⟨(x b).val, (x b).isLt, ?_⟩
      show (x b).val = 0 + 1 * (x b).val
      omega
  refine hr.trans ?_
  have hx : x = ix1 (n := 1024) (x 0) := eq_ix1 x
  obtain ⟨h0, h1, h2⟩ := oRow_emb i (x 0)
  have e : 2 * ((oRow i).view.emb (ix1 (n := 1024) (x 0)) 0).val + ((oRow i).view.emb (ix1 (n := 1024) (x 0)) 1).val = 16 * (i 0).val + (i 1).val := by
    rw [h0, h1]; exact Nat.div_add_mod _ 2
  rw [hx]
  show totalOf (hsRow hs) zf (1024 * (16 * (i 0).val + (i 1).val)) 32 (x 0) = totalOf (hsRow hs) zf
    (1024 * (2 * ((oRow i).view.emb (ix1 (n := 1024) (x 0)) 0).val + ((oRow i).view.emb (ix1 (n := 1024) (x 0)) 1).val)) 32 ((oRow i).view.emb (ix1 (n := 1024) (x 0)) 2)
  rw [e, h2]

set_option maxRecDepth 65536 in
theorem body (d : Dev nD) (i : grid0.Coords) (hs : Buf (Elt F) (hsM.view.loc (thrV d i))) (q1 q2 : PosShare TreeShare)
    (fo : Buf (Elt F) (ouM.view.loc (thrV d i)))
    (fA : Buf (Elt F) (bA.view.loc (thrV d i))) (fB : Buf (Elt F) (bB.view.loc (thrV d i))) (fa : Buf (Elt F) (acM.view.loc (thrV d i)))
    (O : CellTallies nD τ sig (HIx 1)) (W : Waits sig (HIx 1)) :
    iprop((hsM.view.loc (thrV d i) ↦{q1} hs) ∗ (hsM.view.loc (thrV d i) ↦{q2} hs)
      ∗ ((oRow i).view.loc (thrV d i) ↦[(oRow i).view.set]{fullShare} fo)
      ∗ (bA.view.loc (thrV d i) ↦{fullShare} fA) ∗ (bB.view.loc (thrV d i) ↦{fullShare} fB) ∗ (acM.view.loc (thrV d i) ↦{fullShare} fa)
      ∗ semVal (thrV d i, SemLoc.dma cc0_scratch3.sem) 0 ∗ semVal (thrV d i, SemLoc.dma cc0_scratch4.sem) 0
      ∗ semVal (thrV d i, SemLoc.dma cc0_scoped0.sem) 0
      ∗ owes (thrV d i) O W ∗ Transfers.MayWaits (thrV d i) (none : HIx 1) O)
    ⊢ (wp frame (wpE (defs₀ (F := F)) 𝒱₀ (thrV d i) none) Set.univ
      (cc0__segsum_body (F := F) i hsM (Memref.isWhole_whole _) ouM (Memref.isWhole_whole _) bA (Memref.isWhole_whole _) bB (Memref.isWhole_whole _) acM (Memref.isWhole_whole _) cc0_scratch3 cc0_scratch4 cc0_scoped0)
      (fun _ => iprop((hsM.view.loc (thrV d i) ↦{q1} hs) ∗ (hsM.view.loc (thrV d i) ↦{q2} hs)
      ∗ ((oRow i).view.loc (thrV d i) ↦[(oRow i).view.set]{fullShare} vout hs)
      ∗ (∃ f, bA.view.loc (thrV d i) ↦{fullShare} f) ∗ (∃ f, bB.view.loc (thrV d i) ↦{fullShare} f) ∗ (∃ f, acM.view.loc (thrV d i) ↦{fullShare} f)
      ∗ semVal (thrV d i, SemLoc.dma cc0_scratch3.sem) 0 ∗ semVal (thrV d i, SemLoc.dma cc0_scratch4.sem) 0
      ∗ semVal (thrV d i, SemLoc.dma cc0_scoped0.sem) 0
      ∗ ∃ W', ⌜∀ p ∈ W', p ∈ W ∨ p.2 = none⌝ ∗ owes (thrV d i) O W')) : sProp 𝕄) := by
  rw [cc0__segsum_body_eq_skeleton]; unfold cc0__segsum_body_skel
  iintro ⟨H1, H2, Ho, HA, HB, Ha, Hs3, Hs4, Hs5, HO, Hmw⟩
  sl_exec
  have hz : acM.view.writes (Elt F) acM.view.junk (body.sl.Ha_64 (F := F)) = accC i hs (2 * 0) := writes_zeros i hs _
  rw [hz]
  have e1 : k0_off1 i 0#32 = ckOff i (2 * 0) := off1_eq i 0
  have e2 : k0_off1 i 32#32 = ckOff i (2 * 0 + 1) := off1_eq i 1
  have n1 : ∀ a, k0_off1 i 0#32 a + S32x1024.size a ≤ S32768x1024.size a := k0_off1_inb i 0
  have n2 : ∀ a, k0_off1 i 32#32 a + S32x1024.size a ≤ S32768x1024.size a := k0_off1_inb i 1
  ihave HbA := (busy_introA d i hs q1 _ _ n1 _ rfl) $$ [Hs3 H1]
  · isplitl [Hs3]; · iexact Hs3
    iexact H1
  ihave HbB := (busy_introB d i hs q2 _ _ n2 _ rfl) $$ [Hs4 H2]
  · isplitl [Hs4]; · iexact Hs4
    iexact H2
  sl_for (inv1 d i hs q1 q2 O W) $$ [HbA HbB Ha HO Hmw]
  case region => exact fun t _ => trip1 d i hs q1 q2 O W t
  · unfold inv1
    isplitl [Hmw]; · iexact Hmw
    isplitl [HbA HbB]
    · rw [dif_pos (by decide)]
      isplitl [HbA]
      · iapply (Entails.of_eq (busy_congr d i hs cc0_scratch3.sem bA q1 (gA d i hs) n1 (ckOff_inb i (2 * 0) (by omega)) e1)); iexact HbA
      · iapply (Entails.of_eq (busy_congr d i hs cc0_scratch4.sem bB q2 (gB d i hs) n2 (ckOff_inb i (2 * 0 + 1) (by omega)) e2)); iexact HbB
    isplitl [Ha]; · iexact Ha
    iexists _; isplitr
    rotate_left
    · iexact HO
    · ipureintro; exact fun p hp => Or.inl hp
  iintro %_ HI
  rw [show Scf.trips k0_t1_loop.lb k0_t1_loop.ub k0_t1_loop.st = 16 from by decide]
  unfold inv1
  rw [dif_neg (by decide)]
  unfold free
  icases HI with ⟨Hmw, ⟨⟨Hs3, HA, H1⟩, Hs4, HB, H2⟩, Ha, %W', %hW', HO⟩
  sl_exec (disch := exact View.amount_pos _ _ (show 0 < S1024.numel by decide))
  sl_step
  have hv : ((oRow i).view.loc (thrV d i) ↦[(oRow i).view.set]{fullShare} (oRow i).view.writes (Elt F) fo [⟨Rect.whole S1024, body.sl.dma0 d i hs⟩] : sProp 𝕄)
      = ((oRow i).view.loc (thrV d i) ↦[(oRow i).view.set]{fullShare} vout hs) := pointsTo_congr fun y hy => writes_oRow i hs fo _ rfl y hy
  ihave Ho := (Entails.of_eq hv) $$ Ho
  isplitl [H1]; · iexact H1
  isplitl [H2]; · iexact H2
  isplitl [Ho]; · iexact Ho
  isplitl [HA]; · iexact HA
  isplitl [HB]; · iexact HB
  isplitl [Ha]; · iexists _; iexact Ha
  isplitl [Hs3]; · iexact Hs3
  isplitl [Hs4]; · iexact Hs4
  isplitl [Hs5]; · iexact Hs5
  iexists _; isplitr
  rotate_left
  · iexact HO
  · ipureintro; exact waits_insert _ _ hW' _

end Cert.Proof.Tile
-- ==== Proof.Region.lean ====
module
public import proofs.«01_k».proof.Proof.Gen.KernelIdeal.Launch
public import proofs.«01_k».proof.Proof.Gen.KernelIdeal.Points
public import Idealize.ShloMosaic.Lib.Pipeline.ValueKit.Geometry
public import proofs.«01_k».proof.Proof.Body
@[expose] public section
noncomputable section
namespace Cert.Proof.Nrm
open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic
open Idealize.ShloMosaic.ValueIdx
open Idealize.ShloMosaic.Pipeline (Dat BodyObligation)
open Cert.Proof.Tile (UU 𝒱₀)

/-! The TensorCore's kernel: it adds the two halves of every prompt's sum and divides by the norm. -/

variable {F : FTy → Type} [FloatOps F] [Named F]
local notation "𝕄" => MT nD τ sig (HIx 1) (Elt F) ℕ UU ℕ

/-! ## What it computes -/

/-- The sums over half `h` of every prompt. -/
def half (x : FVec F S16x2x1024 .f32) (h : Fin 2) : FVec F S16x1024 .f32 := fun y => x (ix3 (y 0) h (y 1))

/-- Rows divided by their norms. -/
def unitRows (v : FVec F S16x1024 .f32) : FVec F S16x1024 .f32 :=
  mulf v (broadcastTo S16x1024 (rsqrt (maximumf
    (shapeCast S16x1 (multiReduction .add [1] S16 (mulf v v) 0x00000000#32 reduces_S16x1024_S16 (.inl rfl) rfl) shapeCasts_S16_S16x1)
    (broadcast S16x1 (Named.named κ "eps2" 0x229ABE15#32)))) broadcasts_S16x1_S16x1024)

/-- The kernel's result, of the array of half sums. -/
def nrm (x : FVec F S16x2x1024 .f32) : FVec F S16x1024 .f32 := unitRows (addf (half x 0) (half x 1))

/-! ## The body's run -/

abbrev inM : Memref sig .tc .vmem S16x2x1024 .f32 := Memref.whole cc1_stg0_0
abbrev reM : Memref sig .tc .vmem S16x1024 .f32 := Memref.whole cc1_stg1_0

theorem half_inb (h : Fin 2) : ∀ a, (![0, h.val, 0] : Fin 3 → ℕ) a + S16x1x1024.size a ≤ S16x2x1024.size a
  | 0 => le_refl 16
  | 1 => show h.val + 1 ≤ 2 from h.isLt
  | 2 => le_refl 1024

theorem read_half (x : FVec F S16x2x1024 .f32) (h : Fin 2) :
    shapeCast S16x1024 (inM.view.readAt (Elt F) (Rect.unit (s := S16x2x1024) ![0, h.val, 0] S16x1x1024.size (half_inb h)).toLoadRect x)
      shapeCasts_S16x1x1024_S16x1024 = half x h := by
  funext y
  have h0 : (y 0).val < 16 := (y 0).isLt
  have h1 : (y 1).val < 1024 := (y 1).isLt
  refine (shapeCast_apply _ _ y (ix3 (n0 := 16) (n1 := 1) (n2 := 1024) ⟨(y 0).val, h0⟩ 0 ⟨(y 1).val, h1⟩) ?_).trans ?_
  · rw [Shape.rowMajor_val_three, Shape.rowMajor_val_two]
    show ((y 0).val * 1 + 0) * 1024 + (y 1).val = (y 0).val * 1024 + (y 1).val
    omega
  rw [View.readAt_apply]
  show x _ = x _
  congr 1
  funext a
  match a with
  | 0 => exact Fin.ext (show 0 + 1 * (y 0).val = (y 0).val by omega)
  | 1 => exact Fin.ext (show h.val + 1 * 0 = h.val by omega)
  | 2 => exact Fin.ext (show 0 + 1 * (y 1).val = (y 1).val by omega)

theorem writes_whole (f g : FVec F S16x1024 .f32) (hi : ∀ a, (![0, 0] : Fin 2 → ℕ) a + S16x1024.size a ≤ S16x1024.size a) :
    reM.view.writes (Elt F) f [⟨Rect.unit (s := S16x1024) ![0, 0] S16x1024.size hi, g⟩] = g := by
  have h0 : (![0, 0] : Fin 2 → ℕ) = fun _ => 0 := by
    funext a
    match a with
    | 0 => rfl
    | 1 => rfl
  exact Memref.write_access_unit_zero_univ (Elt F) cc1_stg1_0 h0 hi f g

theorem body (d : Dev nD) (x : FVec F S16x2x1024 .f32) (f : FVec F S16x1024 .f32) :
    iprop((inM.view.loc (T d) ↦{fullShare} x) ∗ (reM.view.loc (T d) ↦{fullShare} f))
    ⊢ (wp frame (wpE (defs₀ (F := F)) 𝒱₀ (T d) none) Set.univ
        (cc1__normalize_body (F := F) inM (Memref.isWhole_whole _) reM (Memref.isWhole_whole _))
        (fun _ => iprop((inM.view.loc (T d) ↦{fullShare} x) ∗ (reM.view.loc (T d) ↦{fullShare} nrm x))) : sProp 𝕄) := by
  iintro ⟨Hi, Ho⟩
  unfold cc1__normalize_body
  sl_exec
  sl_step
  have hv : body.sl.v12 (F := F) x = nrm x := by
    unfold nrm
    rw [← read_half x 0, ← read_half x 1]
    rfl
  have hw := writes_whole f (body.sl.v12 (F := F) x) inb_S16x1024_S16x1024_0_0
  isplitl [Hi]
  · iexact Hi
  · ihave Ho := (Entails.of_eq (congrArg (fun g => (reM.view.loc (T d) ↦{fullShare} g : sProp 𝕄)) (hw.trans hv))) $$ Ho
    iexact Ho

/-! ## The kernel's pipeline: one point, both arrays whole -/

/-- What the pipeline moves: the half sums in, the result out. `B` bounds the waits recorded before. -/
def dat (x : FVec F S16x2x1024 .f32) (f : FVec F S16x1024 .f32) (B : Set (SemLoc sig × HIx 1)) (d : Dev nD) :
    Dat τ (Elt F) (HIx 1) ℕ UU ℕ cfg1 d where
  A w := match w with
    | ⟨0, _⟩ => x
    | ⟨1, _⟩ => f
  after w _ := match w with
    | ⟨0, _⟩ => x
    | ⟨1, _⟩ => nrm x
  Φ _ := BI.emp
  q _ := fullShare
  owed _ := 0
  recorded _ := B

variable (x : FVec F S16x2x1024 .f32) (f : FVec F S16x1024 .f32) (B : Set (SemLoc sig × HIx 1))

theorem before_in (d : Dev nD) (g : (cfg1.win 0).block.Idx → Elt F (cfg1.win 0).elt) : (dat x f B d).before 0 t1_0 g = x := by
  unfold Dat.before
  rw [if_pos (fetch1_0 _)]
  show ((cfg1.win 0).blk t1_0).view.read (Elt F) x = x
  funext j
  show x _ = x j
  congr 1
  funext a
  match a with
  | 0 => exact Fin.ext (show 0 + 1 * (j 0).val = (j 0).val by omega)
  | 1 => exact Fin.ext (show 0 + 1 * (j 1).val = (j 1).val by omega)
  | 2 => exact Fin.ext (show 0 + 1 * (j 2).val = (j 2).val by omega)

theorem oblig (d : Dev nD) : BodyObligation (dat x f B d) (defs₀ (F := F)) 𝒱₀ (none : HIx 1) Set.univ := fun t => by
  obtain rfl := fin_N1 t
  rw [bigSep_W1, bigSep_W1]
  simp only [owns_whole_eq]
  rw [show (dat x f B d).Φ t1_0.castSucc = BI.emp from rfl, show (dat x f B d).Φ t1_0.succ = BI.emp from rfl,
    show (dat x f B d).owesAt (none : HIx 1) t1_0.succ = (dat x f B d).owesAt (none : HIx 1) t1_0.castSucc from rfl]
  iintro ⟨HΦ, HO, ⟨%g0, %f0, %hf0, H0⟩, ⟨%g1, %f1, -, H1⟩⟩
  rw [before_in] at hf0
  subst hf0
  iapply (wp_wand_r frame _ Set.univ)
  isplitl [H0 H1]
  · iapply (body d f0 f1)
    isplitl [H0]
    · iexact H0
    · iexact H1
  iintro %_ ⟨H0, H1⟩
  isplitl [HΦ]; · iexact HΦ
  isplitl [HO]; · iexact HO
  isplitl [H0]
  · iexists _
    isplitr
    rotate_left
    · iexact H0
    · ipureintro
      dsimp only [dat]
  · iexists _
    isplitr
    rotate_left
    · iexact H1
    · ipureintro
      dsimp only [dat]

/-- The result's array after the pipeline. -/
theorem arr_out (d : Dev nD) : (dat x f B d).arrAt 1 cfg1.N = nrm x := by
  refine (dat x f B d).arrAt_eq_of_after_last 1 t1_0 (by decide +kernel) _ fun j => ?_
  show nrm x _ = nrm x _
  congr 1

theorem arr_in (d : Dev nD) (n : ℕ) : (dat x f B d).arrAt 0 n = x := (dat x f B d).arrAt_in 0 rfl n

/-! ## The pipeline between two states of the TensorCore -/

abbrev adm : (p : Fin 1) → (pcfgs (F := F) p).Adm := fun p => (cfgs p).toPCfg_adm

def dats : (p : Fin 1) → (d : Dev nD) → Dat τ (Elt F) (HIx 1) ℕ UU ℕ (Pipeline.pin (pcfgs (F := F)) adm p) d
  | ⟨0, _⟩ => fun d => dat x f B d

/-- The pipeline's two arrays, one by one. -/
theorem arrays_eq (d : Dev nD) (n : ℕ) (r : FVec F S16x1024 .f32) (hr : (dat x f B d).arrAt 1 n = r) :
    ((dats x f B 0 d).arrays ((dats x f B 0 d).arrAt · n) : sProp 𝕄)
      = iprop(((T d : Thread nD τ).loc main_v0 ↦{fullShare} x) ∗ ((T d : Thread nD τ).loc main_v1 ↦{fullShare} r)) := by
  unfold Pipeline.Dat.arrays
  refine (bigSep_W1 _).trans ?_
  have h0 : (dats x f B 0 d).arrAt 0 n = x := arr_in x f B d n
  have h1 : (dats x f B 0 d).arrAt 1 n = r := hr
  have s0 : (dats x f B 0 d).share 0 = fullShare := rfl
  have s1 : (dats x f B 0 d).share 1 = fullShare := rfl
  have k0 : ((T d : Thread nD τ).loc main_v0 ↦[(Memref.whole main_v0).view.set]{fullShare} x : sProp 𝕄)
      = ((T d : Thread nD τ).loc main_v0 ↦{fullShare} x) :=
    congrArg (fun s => ((T d : Thread nD τ).loc main_v0 ↦[s]{fullShare} x : sProp 𝕄)) (Memref.isWhole_whole main_v0).set_eq_univ
  have k1 : ((T d : Thread nD τ).loc main_v1 ↦[(Memref.whole main_v1).view.set]{fullShare} r : sProp 𝕄)
      = ((T d : Thread nD τ).loc main_v1 ↦{fullShare} r) :=
    congrArg (fun s => ((T d : Thread nD τ).loc main_v1 ↦[s]{fullShare} r : sProp 𝕄)) (Memref.isWhole_whole main_v1).set_eq_univ
  beta_reduce
  rw [h0, h1, s0, s1]
  exact congrArg₂ (fun a b : sProp 𝕄 => iprop(a ∗ b)) k0 k1

set_option backward.isDefEq.respectTransparency.types false in
/-- Entered with both arrays and left with them, the result's now the rows divided by their norms. -/
def seg (L : GSem nD τ sig → Finset (HIx 1)) (lv : GSem nD τ sig → HIx 1 → ℕ) :
    Pipeline.RegionSeg (pcfgs (F := F)) adm (dats x f B) (none : HIx 1) defs₀ 𝒱₀ L lv 0 where
  win := (launch1).win.to₀
  block_pos := (launch1).block_pos
  stage_whole := (launch1).stage_whole
  K := PEmpty
  osem k := k.elim
  ho := Pipeline.OwnSemFacts.none _
  hbody d := (oblig x f B d).loose
  hwaits := Pipeline.hwaits_of_owed_zero _ _ _ _ L lv 0 fun _ _ => rfl
  pre d := iprop(((T d : Thread nD τ).loc main_v0 ↦{fullShare} x) ∗ ((T d : Thread nD τ).loc main_v1 ↦{fullShare} f) ∗ ∃ W, ⌜∀ p ∈ W, p ∈ B⌝ ∗ owes (T d : Thread nD τ) 0 W)
  post d := iprop(((T d : Thread nD τ).loc main_v0 ↦{fullShare} x) ∗ ((T d : Thread nD τ).loc main_v1 ↦{fullShare} nrm x)
    ∗ ∃ W, ⌜∀ p ∈ W, p ∈ B ∨ p.2 = none⌝ ∗ owes (T d : Thread nD τ) 0 W)
  X _ := BI.emp
  Y _ := BI.emp
  Z _ := BI.emp
  hentry d := by
    rw [Pipeline.ownSems0_none]
    iintro ⟨⟨Hx, Hf, HO⟩, -, -⟩
    imodintro
    isplitl [Hx Hf]
    · iapply (Entails.of_eq (arrays_eq x f B d 0 f rfl).symm)
      isplitl [Hx]
      · iexact Hx
      · iexact Hf
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, %hW, HO⟩
      iexists W
      isplitr
      · ipureintro; exact fun p hp => Or.inl (hW p hp)
      · iexact HO
    isplitr <;> iempintro
  hin d := by
    rw [show (dats x f B 0 d).Φ 0 = BI.emp from rfl]
    iintro -
    iempintro
  hout d := by
    rw [Pipeline.ownSems0_none]
    have e : (Pipeline.scopedRest (Pipeline.pin (pcfgs (F := F)) adm 0).spec d : sProp 𝕄) = BI.emp := scopedRest1_eq d
    rw [e]
    iintro -
    isplitr; · iempintro
    isplitr <;> iempintro
  hexit d := by
    iintro ⟨Ha, HO, -, -⟩
    ihave Ha := (Entails.of_eq (arrays_eq x f B d _ (nrm x) (arr_out x f B d))) $$ Ha
    icases Ha with ⟨Hx, Hr⟩
    imodintro
    isplitl [Hx]; · iexact Hx
    isplitl [Hr]; · iexact Hr
    unfold Pipeline.Dat.owesAt Pipeline.owesWithin
    icases HO with ⟨%W, %hW, HO⟩
    iexists W
    isplitr
    · ipureintro
      intro p hp
      rcases hW hp with h | ⟨_, _, h⟩
      · exact Or.inl h
      · exact Or.inr (h ▸ rfl)
    · iexact HO

theorem seg_pre (L : GSem nD τ sig → Finset (HIx 1)) (lv : GSem nD τ sig → HIx 1 → ℕ) (d : Dev nD) :
    (seg x f B L lv).pre d = iprop(((T d : Thread nD τ).loc main_v0 ↦{fullShare} x) ∗ ((T d : Thread nD τ).loc main_v1 ↦{fullShare} f)
      ∗ ∃ W, ⌜∀ p ∈ W, p ∈ B⌝ ∗ owes (T d : Thread nD τ) 0 W) := rfl

theorem seg_post (L : GSem nD τ sig → Finset (HIx 1)) (lv : GSem nD τ sig → HIx 1 → ℕ) (d : Dev nD) :
    (seg x f B L lv).post d = iprop(((T d : Thread nD τ).loc main_v0 ↦{fullShare} x) ∗ ((T d : Thread nD τ).loc main_v1 ↦{fullShare} nrm x)
      ∗ ∃ W, ⌜∀ p ∈ W, p ∈ B ∨ p.2 = none⌝ ∗ owes (T d : Thread nD τ) 0 W) := rfl

end Cert.Proof.Nrm
end
-- ==== Proof.Task.lean ====
module
public import proofs.«01_k».proof.Proof.Region
@[expose] public section
noncomputable section
namespace Cert.Proof.Run
open Cert.KernelIdeal Cert.KernelIdeal.Gen
open Idealize.ShloMosaic
open Idealize.ShloMosaic.SparseCore (S V)
open Idealize.ShloMosaic.SparseCore.Cfg (HIx ownCells ownRefs ownSems0 ownBufs mem_ownCells)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx
open Cert.Proof.Tile (UH UP UU 𝒱₀ cV jV thrV hsM ouM bA bB acM oRow vout oRow_emb)
open Cert.Proof.Nrm (adm nrm)

/-! The SparseCore call: what each tile is handed and what it hands back. -/

variable {F : FTy → Type} [FloatOps F] [Named F]
local notation "𝕄" => MT nD τ sig (HIx 1) (Elt F) ℕ UU ℕ

abbrev ΛP : Labels := Pipeline.Sig Λ₀ (Fin 1) fun p => (pcfgs (F := F) p).Adm
abbrev K : SparseCore.Cfg τ sig (ΛP (F := F)) 1 := sc (F := F)
abbrev D : Defs nD τ sig (Elt F) (ΛP (F := F)) := Pipeline.defs pcfgs defs₀
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide,
    show (SemLoc.reg sc_go : SemLoc sig).isScoped .scVector = false by decide,
    show (SemLoc.reg sc_done : SemLoc sig).isScoped .tc = false by decide,
    show ∀ (b : DevRef τ sig) (c : Fin τ.nSC), b.owner = .sc c → sig.taskShared b.table b.idx = false by decide,
    fun _ => rfl⟩

/-- The rows, the lengths, the half sums and the result, on device `d`. -/
abbrev hLoc (d : Dev nD) : Loc nD τ sig := (SparseCore.T d).loc main_arg0
abbrev lLoc (d : Dev nD) : Loc nD τ sig := (SparseCore.T d).loc main_arg1
abbrev pLoc (d : Dev nD) : Loc nD τ sig := (SparseCore.T d).loc main_v0
abbrev rLoc (d : Dev nD) : Loc nD τ sig := (SparseCore.T d).loc main_v1

/-! ## The pieces of the half sums -/

/-- The grid's point of SparseCore `c` and subcore `i`. -/
def pt (c : Fin 2) (i : Fin 16) : grid0.Coords :=
  fun | 0 => c | 1 => i | ⟨_ + 2, h⟩ => absurd h (Nat.not_lt.2 (Nat.le_add_left _ _))

/-- The entries of the half sums that the tile at `(c, i)` writes: those of half `16 * c + i`. -/
def piece (c : Fin 2) (i : Fin 16) : Finset S16x2x1024.Idx := (oRow (pt c i)).view.set

theorem mem_piece (c : Fin 2) (i : Fin 16) (y : S16x2x1024.Idx) : y ∈ piece c i ↔ 2 * (y 0).val + (y 1).val = 16 * c.val + i.val := by
  have hy : (y 1).val < 2 := (y 1).isLt
  constructor
  · intro h
    obtain ⟨x, -, rfl⟩ := Finset.mem_map.mp h
    obtain ⟨h0, h1, -⟩ := oRow_emb (pt c i) (x 0)
    rw [show x = ix1 (n := 1024) (x 0) from eq_ix1 x]
    refine (congrArg₂ (fun a b => 2 * a + b) h0 h1).trans ?_
    show 2 * ((16 * c.val + i.val) / 2) + (16 * c.val + i.val) % 2 = _
    exact Nat.div_add_mod _ 2
  · intro h
    obtain ⟨h0, h1, h2⟩ := oRow_emb (pt c i) (y 2)
    refine Finset.mem_map.mpr ⟨ix1 (n := 1024) (y 2), Finset.mem_univ _, ?_⟩
    have e0 : (16 * c.val + i.val) / 2 = (y 0).val := by omega
    have e1 : (16 * c.val + i.val) % 2 = (y 1).val := by omega
    funext a
    match a with
    | 0 => exact Fin.ext (h0.trans e0)
    | 1 => exact Fin.ext (h1.trans e1)
    | 2 => exact h2

/-- The entries one SparseCore writes. -/
def side (c : Fin 2) : Finset S16x2x1024.Idx := Finset.univ.biUnion (piece c)

theorem piece_disj (c : Fin 2) (i j : Fin 16) (h : i ≠ j) : Disjoint (piece c i) (piece c j) :=
  Finset.disjoint_left.mpr fun y hi hj => h (Fin.ext (by
    have a := (mem_piece c i y).mp hi
    have b := (mem_piece c j y).mp hj
    omega))

theorem side_disj (c c' : Fin 2) (h : c ≠ c') : Disjoint (side c) (side c') :=
  Finset.disjoint_left.mpr fun y hi hj => h (Fin.ext (by
    obtain ⟨i, -, hi⟩ := Finset.mem_biUnion.mp hi
    obtain ⟨j, -, hj⟩ := Finset.mem_biUnion.mp hj
    have a := (mem_piece c i y).mp hi
    have b := (mem_piece c' j y).mp hj
    have := i.isLt
    have := j.isLt
    omega))

theorem sides : (Finset.univ : Finset (Fin 2)).biUnion side = Finset.univ := by
  refine Finset.eq_univ_iff_forall.mpr fun y => ?_
  have h0 : (y 0).val < 16 := (y 0).isLt
  have h1 : (y 1).val < 2 := (y 1).isLt
  refine Finset.mem_biUnion.mpr ⟨⟨(2 * (y 0).val + (y 1).val) / 16, by omega⟩, Finset.mem_univ _,
    Finset.mem_biUnion.mpr ⟨⟨(2 * (y 0).val + (y 1).val) % 16, by omega⟩, Finset.mem_univ _, (mem_piece _ _ y).mpr ?_⟩⟩
  exact (Nat.div_add_mod _ 16).symm

/-! ## The shares of the rows -/

def qC (c : Fin 2) : PosShare TreeShare := Transfers.dealOf fullShare (Finset.univ : Finset (Fin 2)) c
def qT (c : Fin 2) (i : Fin 16) : PosShare TreeShare := Transfers.dealOf (qC c) (Finset.univ : Finset (Fin 16)) i

theorem rows_cores (d : Dev nD) (f : Buf (Elt F) (hLoc d)) :
    (hLoc d ↦{fullShare} f : sProp 𝕄) = bigSep Finset.univ fun c : Fin 2 => hLoc d ↦{qC c} f :=
  Transfers.pointsTo_deal _ Finset.univ_nonempty _

theorem rows_tiles (d : Dev nD) (f : Buf (Elt F) (hLoc d)) (c : Fin 2) :
    (hLoc d ↦{qC c} f : sProp 𝕄) = bigSep Finset.univ fun i : Fin 16 => hLoc d ↦{qT c i} f :=
  Transfers.pointsTo_deal _ Finset.univ_nonempty _

theorem sums_cores (d : Dev nD) (f : Buf (Elt F) (pLoc d)) :
    (pLoc d ↦{fullShare} f : sProp 𝕄) = bigSep Finset.univ fun c : Fin 2 => pLoc d ↦[side c]{fullShare} f := by
  rw [← pointsTo_biUnion Finset.univ (ℓ := pLoc d) side (fun c _ c' _ h => side_disj c c' h), sides]

theorem sums_tiles (d : Dev nD) (f : Buf (Elt F) (pLoc d)) (c : Fin 2) :
    (pLoc d ↦[side c]{fullShare} f : sProp 𝕄) = bigSep Finset.univ fun i : Fin 16 => pLoc d ↦[piece c i]{fullShare} f :=
  pointsTo_biUnion Finset.univ (ℓ := pLoc d) (piece c) (fun i _ j _ h => piece_disj c i j h)

/-! ## What the call hands over -/

variable (m : (ℓ : Loc nD τ sig) → Buf (Elt F) ℓ) (ρ : Dev nD → PrngReg)

/-- The half sums the tiles compute. -/
abbrev sums (d : Dev nD) : Buf (Elt F) (pLoc d) := vout (m (hLoc d))

abbrev coreP (d : Dev nD) (f : Buf (Elt F) (pLoc d)) (c : Fin 2) : sProp 𝕄 :=
  iprop((hLoc d ↦{qC c} m (hLoc d)) ∗ pLoc d ↦[side c]{fullShare} f)
abbrev tileP (d : Dev nD) (f : Buf (Elt F) (pLoc d)) (c : Fin 2) (i : Fin 16) : sProp 𝕄 :=
  iprop((hLoc d ↦{qT c i} m (hLoc d)) ∗ pLoc d ↦[piece c i]{fullShare} f)

theorem nCore_eq : (K (F := F)).nCore 0 = 2 := rfl
theorem nSub_eq : (K (F := F)).nSub 0 = 16 := rfl

/-- Each SparseCore reads a share of the rows and writes its side of the half sums, and each tile of it a share of that
    share and a piece of that side. -/
def P : (K (F := F)).Pay (nD := nD) (Val := Elt F) (Name := ℕ) (U := UU) where
  st := fun q d c => match q with | 0 => coreP m d (m (pLoc d)) (Fin.cast nCore_eq c)
  dn := fun q d c => match q with | 0 => coreP m d (sums m d) (Fin.cast nCore_eq c)
  go := fun q d c i => match q with | 0 => tileP m d (m (pLoc d)) (Fin.cast nCore_eq c) (Fin.cast nSub_eq i)
  td := fun q d c i => match q with | 0 => tileP m d (sums m d) (Fin.cast nCore_eq c) (Fin.cast nSub_eq i)
  x := fun _ _ => iprop(emp)

instance P_storable : (P (F := F) m).IsStorable where
  st q d c := match q with
    | 0 => (inferInstance : BI.Storable (upEmb : UEmb _ 𝕄) (coreP m d (m (pLoc d)) (Fin.cast nCore_eq c)))
  dn q d c := match q with
    | 0 => (inferInstance : BI.Storable (upEmb : UEmb _ 𝕄) (coreP m d (sums m d) (Fin.cast nCore_eq c)))
  go q d c i := match q with
    | 0 => (inferInstance : BI.Storable (upEmb : UEmb _ 𝕄) (tileP m d (m (pLoc d)) (Fin.cast nCore_eq c) (Fin.cast nSub_eq i)))
  td q d c i := match q with
    | 0 => (inferInstance : BI.Storable (upEmb : UEmb _ 𝕄) (tileP m d (sums m d) (Fin.cast nCore_eq c) (Fin.cast nSub_eq i)))

theorem coreP_tiles (d : Dev nD) (f : Buf (Elt F) (pLoc d)) (c : Fin 2) :
    coreP m d f c = bigSep Finset.univ fun i : Fin 16 => tileP m d f c i := by
  unfold coreP tileP
  rw [rows_tiles, sums_tiles, bigSep_sep']

theorem cores_whole (d : Dev nD) (f : Buf (Elt F) (pLoc d)) :
    (bigSep Finset.univ fun c : Fin 2 => coreP m d f c) = iprop((hLoc d ↦{fullShare} m (hLoc d)) ∗ pLoc d ↦{fullShare} f) := by
  unfold coreP
  rw [rows_cores, sums_cores, bigSep_sep']

theorem vecSplit : (K (F := F)).VecSplit' (P m) 0 := by
  intro d c
  show coreP m d (m (pLoc d)) (Fin.cast nCore_eq c) ⊢ |={Set.univ}=> iprop(
      (bigSep Finset.univ fun i : Fin 16 => tileP m d (m (pLoc d)) (Fin.cast nCore_eq c) i)
      ∗ ((bigSep Finset.univ fun i : Fin 16 => tileP m d (sums m d) (Fin.cast nCore_eq c) i) -∗ coreP m d (sums m d) (Fin.cast nCore_eq c)))
  rw [← coreP_tiles, ← coreP_tiles]
  iintro H
  imodintro
  isplitl [H]; · iexact H
  iintro H
  iexact H

/-! ## One tile, from what it is handed -/

section Tile

variable (d : Dev nD) (L : grid0.Coords)

abbrev semA : GSem nD τ sig := (thrV d L, .dma cc0_scratch3.sem)
abbrev semB : GSem nD τ sig := (thrV d L, .dma cc0_scratch4.sem)
abbrev semO : GSem nD τ sig := (thrV d L, .dma cc0_scoped0.sem)

/-- The tile's own semaphores: its three, and the rest. -/
theorem ownSems0_V :
    (ownSems0 (thrV d L) : sProp 𝕄)
      = iprop(semVal (semA d L) 0 ∗ semVal (semB d L) 0 ∗ semVal (semO d L) 0
          ∗ bigSep ((((ownCells (thrV d L)).erase (semA d L)).erase (semB d L)).erase (semO d L)) fun g => semVal g 0) := by
  have hA : semA d L ∈ ownCells (thrV d L) := mem_ownCells.mpr ⟨rfl, by
    show (SemLoc.dma cc0_scratch3.sem : SemLoc sig).isScoped .scVector = true; decide⟩
  have hB : semB d L ∈ ownCells (thrV d L) := mem_ownCells.mpr ⟨rfl, by
    show (SemLoc.dma cc0_scratch4.sem : SemLoc sig).isScoped .scVector = true; decide⟩
  have hO : semO d L ∈ ownCells (thrV d L) := mem_ownCells.mpr ⟨rfl, by
    show (SemLoc.dma cc0_scoped0.sem : SemLoc sig).isScoped .scVector = true; decide⟩
  have nBA : semB d L ≠ semA d L := fun e => absurd (Prod.mk.inj e).2 (by decide)
  have nOA : semO d L ≠ semA d L := fun e => absurd (Prod.mk.inj e).2 (by decide)
  have nOB : semO d L ≠ semB d L := fun e => absurd (Prod.mk.inj e).2 (by decide)
  unfold SparseCore.Cfg.ownSems0
  rw [SparseCore.bigSep_erase' hA, SparseCore.bigSep_erase' (Finset.mem_erase.mpr ⟨nBA, hB⟩),
    SparseCore.bigSep_erase' (Finset.mem_erase.mpr ⟨nOB, Finset.mem_erase.mpr ⟨nOA, hO⟩⟩)]

abbrev scr0 : DevRef τ sig := (Proc.scVector (cV L) (jV L)).devRef cc0_scratch0
abbrev scr1 : DevRef τ sig := (Proc.scVector (cV L) (jV L)).devRef cc0_scratch1
abbrev scr2 : DevRef τ sig := (Proc.scVector (cV L) (jV L)).devRef cc0_scratch2

/-- The tile's own buffers: its three, and the rest. -/
theorem ownBufs_V :
    (ownBufs (thrV d L) : sProp 𝕄)
      = iprop((∃ f, (thrV d L).loc cc0_scratch0 ↦{fullShare} f) ∗ (∃ f, (thrV d L).loc cc0_scratch1 ↦{fullShare} f)
          ∗ (∃ f, (thrV d L).loc cc0_scratch2 ↦{fullShare} f)
          ∗ bigSep ((((ownRefs (τ := τ) (.scVector (cV L) (jV L))).erase (scr0 L)).erase (scr1 L)).erase (scr2 L))
              fun b => iprop(∃ f, ((d, b) : Loc nD τ sig) ↦{fullShare} f)) := by
  have h0 : scr0 L ∈ ownRefs (τ := τ) (.scVector (cV L) (jV L)) := SparseCore.Cfg.mem_ownRefs_of_owner (p := Proc.scVector (cV L) (jV L)) (b := scr0 L) rfl
  have h1 : scr1 L ∈ ownRefs (τ := τ) (.scVector (cV L) (jV L)) := SparseCore.Cfg.mem_ownRefs_of_owner (p := Proc.scVector (cV L) (jV L)) (b := scr1 L) rfl
  have h2 : scr2 L ∈ ownRefs (τ := τ) (.scVector (cV L) (jV L)) := SparseCore.Cfg.mem_ownRefs_of_owner (p := Proc.scVector (cV L) (jV L)) (b := scr2 L) rfl
  have n10 : scr1 L ≠ scr0 L := fun e => absurd (Proc.devRef_injective _ e) (show (cc0_scratch1 : Ref sig .scVector) ≠ cc0_scratch0 by decide)
  have n20 : scr2 L ≠ scr0 L := fun e => absurd (Proc.devRef_injective _ e) (show (cc0_scratch2 : Ref sig .scVector) ≠ cc0_scratch0 by decide)
  have n21 : scr2 L ≠ scr1 L := fun e => absurd (Proc.devRef_injective _ e) (show (cc0_scratch2 : Ref sig .scVector) ≠ cc0_scratch1 by decide)
  unfold SparseCore.Cfg.ownBufs
  refine (SparseCore.bigSep_erase' h0).trans ?_
  rw [SparseCore.bigSep_erase' (Finset.mem_erase.mpr ⟨n10, h1⟩),
    SparseCore.bigSep_erase' (Finset.mem_erase.mpr ⟨n21, Finset.mem_erase.mpr ⟨n20, h2⟩⟩)]

end Tile

end Cert.Proof.Run
end
-- ==== Proof.Launch.lean ====
module
public import proofs.«01_k».proof.Proof.Task
@[expose] public section
noncomputable section
namespace Cert.Proof.Run
open Cert.KernelIdeal Cert.KernelIdeal.Gen
open Idealize.ShloMosaic
open Idealize.ShloMosaic.SparseCore (S V)
open Idealize.ShloMosaic.SparseCore.Cfg (HIx ownCells ownRefs ownSems0 ownBufs mem_ownCells)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx
open Cert.Proof.Tile (UH UP UU 𝒱₀ cV jV thrV hsM ouM bA bB acM oRow vout)
open Cert.Proof.Nrm (adm nrm)

/-! The launch: every tile's run, the TensorCore's two calls, and the program's run from them. -/

variable {F : FTy → Type} [FloatOps F] [Named F]
local notation "𝕄" => MT nD τ sig (HIx 1) (Elt F) ℕ UU ℕ

/-! ## One tile, from what it is handed to what it hands back -/

theorem tile_run (d : Dev nD) (L : grid0.Coords) (hF : (K (F := F)).Facts) (hs : Buf (Elt F) (hLoc d)) (q : PosShare TreeShare)
    (fo : Buf (Elt F) (pLoc d)) (O : CellTallies nD τ sig (HIx 1)) (W : Waits sig (HIx 1)) (hO : ∀ g, O g none = 0) :
    iprop(levAts (K (F := F)).L (K (F := F)).lev ∗ emp ∗ ((hLoc d ↦{q} hs) ∗ pLoc d ↦[(oRow L).view.set]{fullShare} fo)
      ∗ scopedBufs (thrV d L) ∗ scopedSems0 (thrV d L) ∗ owes (thrV d L) O W)
    ⊢ (wp frame (wpE (defs₀ (F := F)) 𝒱₀ (thrV d L) none) Set.univ
        (cc0__segsum_body (F := F) L hsM (Memref.isWhole_whole _) ouM (Memref.isWhole_whole _) bA (Memref.isWhole_whole _)
          bB (Memref.isWhole_whole _) acM (Memref.isWhole_whole _) cc0_scratch3 cc0_scratch4 cc0_scoped0)
        (fun _ => iprop(((hLoc d ↦{q} hs) ∗ pLoc d ↦[(oRow L).view.set]{fullShare} vout hs)
          ∗ scopedBufs (thrV d L) ∗ scopedSems0 (thrV d L)
          ∗ ∃ W', ⌜∀ p ∈ W', p ∈ W ∨ p.2 = none ∨ p.2 = some (0 : Fin 1)⌝ ∗ owes (thrV d L) O W')) : sProp 𝕄) := by
  rw [(K (F := F)).scopedBufs_V hF d (cV L) (jV L), SparseCore.Cfg.scopedSems0_V (Val := Elt F) d (cV L) (jV L), ownSems0_V, ownBufs_V]
  iintro ⟨#Hlv, -, ⟨Hh, Ho⟩, ⟨⟨%fA, HA⟩, ⟨%fB, HB⟩, ⟨%fa, Ha⟩, Hbr⟩, ⟨HsA, HsB, HsO, Hsr⟩, HO⟩
  ihave Hmw := ((K (F := F)).mayWaits_none (thr := thrV d L) hO) $$ Hlv
  ihave Hh := (pointsTo_share (PosShare.mem_left_op_right q)).1 $$ Hh
  icases Hh with ⟨H1, H2⟩
  iapply (wp_wand_r frame _ Set.univ)
  isplitl [H1 H2 Ho HA HB Ha HsA HsB HsO HO]
  · iapply (Cert.Proof.Tile.body d L hs q.left q.right fo fA fB fa O W)
    isplitl [H1]; · iexact H1
    isplitl [H2]; · iexact H2
    isplitl [Ho]; · iexact Ho
    isplitl [HA]; · iexact HA
    isplitl [HB]; · iexact HB
    isplitl [Ha]; · iexact Ha
    isplitl [HsA]; · iexact HsA
    isplitl [HsB]; · iexact HsB
    isplitl [HsO]; · iexact HsO
    isplitl [HO]; · iexact HO
    iexact Hmw
  iintro %_ ⟨H1, H2, Ho, HA, HB, Ha, HsA, HsB, HsO, %W', %hW', HO⟩
  isplitl [H1 H2 Ho]
  · isplitl [H1 H2]
    · iapply (pointsTo_share (PosShare.mem_left_op_right q)).2
      isplitl [H1]
      · iexact H1
      · iexact H2
    · iexact Ho
  isplitl [HA HB Ha Hbr]
  · isplitl [HA]; · iexact HA
    isplitl [HB]; · iexact HB
    isplitl [Ha]; · iexact Ha
    iexact Hbr
  isplitl [HsA HsB HsO Hsr]
  · isplitl [HsA]; · iexact HsA
    isplitl [HsB]; · iexact HsB
    isplitl [HsO]; · iexact HsO
    iexact Hsr
  iexists W'
  isplitr
  · ipureintro
    exact fun p hp => (hW' p hp).imp_right Or.inl
  · iexact HO

theorem defs₀_vector (c : Fin τ.nSC) (s : Fin τ.nSub) :
    defs₀ (F := F) (.scVector c s) 0 ()
      = SparseCore.onTile hcore0 hsub0 (fun c s => cc0__segsum_body (F := F) (pt c s) hsM (Memref.isWhole_whole _) ouM (Memref.isWhole_whole _)
          bA (Memref.isWhole_whole _) bB (Memref.isWhole_whole _) acM (Memref.isWhole_whole _) cc0_scratch3 cc0_scratch4 cc0_scoped0) ⟨⟩ c s := rfl

variable (m : (ℓ : Loc nD τ sig) → Buf (Elt F) ℓ) (ρ : Dev nD → PrngReg)

theorem tileObl : (K (F := F)).TileObl (D (F := F)) 𝒱 (P m) v₀ 0 := by
  intro d c i O W hO _ _
  simp only [show (P m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]
  simp only [SparseCore.onTile, hc, and_self, ↓reduceDIte]
  exact tile_run d (pt ⟨_, hc.1⟩ ⟨_, hc.2⟩) facts (m (hLoc d)) (Cert.Proof.Run.qT ⟨_, hc.1⟩ ⟨_, hc.2⟩) (m (pLoc d)) O W hO

/-! ## The ghost state at the launch -/

abbrev EH : Emb UH (MT nD τ sig (HIx 1) (Elt F) ℕ UU ℕ) := embL
abbrev ER : Emb (UP × Counters) (MT nD τ sig (HIx 1) (Elt F) ℕ UU ℕ) := embR
def EP : Emb UP (MT nD τ sig (HIx 1) (Elt F) ℕ UU ℕ) := (Emb.inl : Emb UP (UP × Counters)).trans ER

instance EP_landsIn : (EP : Emb UP 𝕄).LandsIn (upEmb : UEmb _ 𝕄) := by unfold EP ER; infer_instance

abbrev cfgsP : Fin 1 → Pipeline.Cfg sig Λ₀ := Pipeline.pin (pcfgs (F := F)) adm

theorem cellsP_inj : Function.Injective (Pipeline.cellOf (nD := nD) (τ := τ) (cfgsP (F := F))) := cellOf_inj

def u₀ : UU :=
  (initOf (K (F := F)).hsCells (K (F := F)).hsToks,
    (initOf (Pipeline.cells (cfgsP (F := F)) cellsP_inj) (Pipeline.launchToks (cfgsP (F := F)) cellsP_inj), 1))

/-- The ghost state of the normalizing kernel's pipeline. -/
abbrev G (d : Dev nD) : sProp 𝕄 :=
  iprop(Pipeline.cellsGhost (cfgsP (F := F)) EP 0 d ∗ Pipeline.toksInit (cfgsP (F := F)) EP 0 d)

theorem own_region (a : UP) (b : Counters) :
    (BI.own (ER (a, b)) : sProp 𝕄) ⊢ iprop(BI.own (EP a) ∗ BI.own (((Emb.inr : Emb Counters (UP × Counters)).trans ER) b)) :=
  own_pair_emb ER a b

theorem one_pipe (Φ : Fin 1 → Dev nD → sProp 𝕄) :
    (bigSep Finset.univ fun d : Dev nD => bigSep Finset.univ fun p : Fin 1 => Φ p d) = bigSep Finset.univ (Φ 0) :=
  bigSep_congr fun d _ => bigSep_univ_of_subsingleton (Φ := fun p : Fin 1 => Φ p d) (0 : Fin 1)

theorem no_kit : (bigSep Finset.univ fun thr : Thread nD τ => bigSep Finset.univ fun q : Fin 1 => (P m).x q thr) = (BI.emp : sProp 𝕄) :=
  (bigSep_congr fun thr _ => bigSep_univ_of_subsingleton (Φ := fun q : Fin 1 => (P m).x q thr) (0 : Fin 1)).trans (bigSep_emp_const _)

theorem hu₀ : (ownU (u₀ (F := F)) : sProp 𝕄)
    ⊢ |={Set.univ}=> iprop(BI.own (EH (initOf (K (F := F)).hsCells (K (F := F)).hsToks)) ∗ bigSep Finset.univ (G (F := F))
        ∗ bigSep Finset.univ fun thr : Thread nD τ => bigSep Finset.univ fun q : Fin 1 => (P m).x q thr) := by
  unfold u₀
  iintro Hu
  ihave Hu := (ownU_pair _ _) $$ Hu
  icases Hu with ⟨HH, HR⟩
  ihave HR := (own_region _ _) $$ HR
  icases HR with ⟨HP, -⟩
  imod (Pipeline.fund_ghost (cfgsP (F := F)) EP cellsP_inj) $$ HP with ⟨Hc, Ht⟩
  imodintro
  isplitl [HH]; · iexact HH
  isplitl [Hc Ht]
  · rw [bigSep_sep']
    isplitl [Hc]
    · iapply (Entails.of_eq (one_pipe fun p d => Pipeline.cellsGhost (cfgsP (F := F)) EP p d))
      iexact Hc
    · iapply (Entails.of_eq (one_pipe fun p d => Pipeline.toksInit (cfgsP (F := F)) EP p d))
      iexact Ht
  · iapply (Entails.of_eq (no_kit m).symm)
    iempintro

/-! ## The TensorCore's program -/

theorem unscopedBufs_eq (d : Dev nD) (W : (b : Ref sig .tc) → Buf (Elt F) ((d.tc : Thread nD τ).loc b)) :
    (unscopedBufs d W : sProp 𝕄) = iprop((hLoc d ↦{fullShare} W main_arg0) ∗ (lLoc d ↦{fullShare} W main_arg1)
      ∗ (pLoc d ↦{fullShare} W main_v0) ∗ rLoc d ↦{fullShare} W main_v1) := by
  unfold unscopedBufs
  rw [show (Finset.univ.filter fun b : Ref sig .tc => ¬ b.isScoped) = {main_arg0, main_arg1, main_v0, main_v1} by decide,
    SparseCore.bigSep_insert' (by decide), SparseCore.bigSep_insert' (by decide), SparseCore.bigSep_insert' (by decide), bigSep_singleton]

theorem st_eq (d : Dev nD) : (bigSep Finset.univ fun c : Fin ((K (F := F)).nCore 0) => (P m).st 0 d c)
    = iprop((hLoc d ↦{fullShare} m (hLoc d)) ∗ pLoc d ↦{fullShare} m (pLoc d)) := cores_whole m d _
theorem dn_eq (d : Dev nD) : (bigSep Finset.univ fun c : Fin ((K (F := F)).nCore 0) => (P m).dn 0 d c)
    = iprop((hLoc d ↦{fullShare} m (hLoc d)) ∗ pLoc d ↦{fullShare} sums m d) := cores_whole m d _

/-- What the TensorCore ends with: the arguments as they were and the result. -/
abbrev FIN (d : Dev nD) : sProp 𝕄 :=
  iprop((hLoc d ↦{fullShare} m (hLoc d)) ∗ (lLoc d ↦{fullShare} m (lLoc d)) ∗ rLoc d ↦{fullShare} nrm (sums m d))

/-- The waits that the call's handshake may have recorded. -/
def seen (d : Dev nD) : Set (SemLoc sig × HIx 1) := {p | (K (F := F)).lev (SparseCore.T d, p.1) p.2 ≤ 8}

/-- The normalizing kernel's pipeline, as the program runs it after the call. -/
theorem region (d : Dev nD) (Φ : PUnit → sProp 𝕄) [∀ e, Nonempty (Elt F e)] :
    iprop((iprop(boundary (SparseCore.T d : Thread nD τ) ∗ (pLoc d ↦{fullShare} sums m d) ∗ (rLoc d ↦{fullShare} nrm (sums m d))
          ∗ ∃ W, ⌜∀ p ∈ W, p ∈ seen (F := F) d ∨ p.2 = none⌝ ∗ owes (SparseCore.T d : Thread nD τ) 0 W) -∗ Φ ⟨⟩)
      ∗ boundary (SparseCore.T d : Thread nD τ)
      ∗ iprop((pLoc d ↦{fullShare} sums m d) ∗ (rLoc d ↦{fullShare} m (rLoc d))
          ∗ ∃ W, ⌜∀ p ∈ W, p ∈ seen (F := F) d⌝ ∗ owes (SparseCore.T d : Thread nD τ) 0 W)
      ∗ levAts (K (F := F)).L (K (F := F)).lev ∗ G (F := F) d)
    ⊢ (wp frame (wpE ((K (F := F)).defs (D (F := F))) 𝒱 (SparseCore.T d) none) Set.univ
        (Prog.lift (.customCall (SparseCore.inner (Pipeline.entry 0)) ())) Φ : sProp 𝕄) := by
  change _ ⊢ wp _ _ _ (SparseCore.liftProg (Prog.op (.customCall (Pipeline.entry (0 : Fin 1)) ()) .ret)) _
  iintro ⟨Hk, Hb, Hpre, Hlv, Hc, Ht⟩
  iapply ((K (F := F)).wp_liftProg (D (F := F)) 𝒱 (SparseCore.T d) Set.univ none _ _)
  iapply (Pipeline.RegionSeg.wp (pcfgs (F := F)) adm
    (Cert.Proof.Nrm.dats (sums m d) (m (rLoc d)) (seen (F := F) d)) (none : HIx 1) cellsP_inj EP defs₀ 𝒱₀ (K (F := F)).L (K (F := F)).lev
    (Cert.Proof.Nrm.seg (sums m d) (m (rLoc d)) (seen (F := F) d) (K (F := F)).L (K (F := F)).lev) d none (fun _ h => nomatch h) .ret Φ)
  isplitl [Hk]
  · iintro ⟨Hb, Hpost⟩
    ihave Hpost := (Entails.of_eq (Cert.Proof.Nrm.seg_post (sums m d) (m (rLoc d)) (seen (F := F) d) (K (F := F)).L (K (F := F)).lev d)) $$ Hpost
    rw [wp_ret]
    imodintro
    iapply Hk
    isplitl [Hb]; · iexact Hb
    iexact Hpost
  isplitl [Hb]; · iexact Hb
  isplitl [Hpre]
  · iapply (Entails.of_eq (Cert.Proof.Nrm.seg_pre (sums m d) (m (rLoc d)) (seen (F := F) d) (K (F := F)).L (K (F := F)).lev d).symm)
    iexact Hpre
  isplitl [Hlv]; · iexact Hlv
  isplitl [Hc]
  · iexact Hc
  · iexact Ht

theorem hmain [∀ e, Nonempty (Elt F e)] (κ : GSem nD τ sig → ℕ) (d : Dev nD) :
    iprop((K (F := F)).ctx EH (P m) κ ∗ (K (F := F)).tcSt EH d 0 ∗ (K (F := F)).tcRes m ρ d ∗ G (F := F) d)
      ⊢ wp frame (wpE ((K (F := F)).defs (D (F := F))) 𝒱 (SparseCore.T d) none) Set.univ (main (F := F) d)
          fun _ => iprop((K (F := F)).tcSt EH d 1 ∗ FIN m d ∗ (K (F := F)).tcEnd d) := by
  unfold SparseCore.Cfg.tcRes SparseCore.Cfg.tcEnd
  rw [unscopedBufs_eq]
  simp only [main, wp_bind, wp_pure]
  iintro ⟨#Hctx, Hst, ⟨Hb, ⟨Hh, Hl, Hp, Hr⟩, Hts, -⟩, HG⟩
  iapply ((K (F := F)).wp_run (D (F := F)) 𝒱 (EH := EH) (P := P m) κ d 0) $$ [Hst Hh Hl Hp Hr Hb Hts HG]
  isplitr; · iexact Hctx
  isplitl [Hst]; · iexact Hst
  isplitl [Hh Hp]
  · rw [st_eq]
    isplitl [Hh]; · iexact Hh
    iexact Hp
  iintro ⟨Hst, Hdn⟩
  ihave Hdn := (Entails.of_eq (dn_eq m d)) $$ Hdn
  icases Hdn with ⟨Hh, Hp⟩
  ihave #Hlv := (SparseCore.Cfg.ctx_levAts (K := K (F := F)) (EH := EH) (P := P m) κ) $$ Hctx
  unfold SparseCore.Cfg.tcSt
  icases Hst with ⟨⟨%W, %hW, HO⟩, Hrest⟩
  have e1 : (K (F := F)).Otc d (((0 : Fin 1) : ℕ) + 1) = 0 := (K (F := F)).Otc_end d le_rfl
  ihave HO := (Entails.of_eq (congrArg (fun O => owes (SparseCore.T d : Thread nD τ) O W) e1)) $$ HO
  iapply (region m d) $$ [Hh Hl Hp Hr Hb Hts HG HO Hrest]
  isplitl [Hh Hl Hts Hrest]
  · iintro ⟨Hb, Hp, Hr, %W', %hW', HO⟩
    ihave HO := (Entails.of_eq (congrArg (fun O => owes (SparseCore.T d : Thread nD τ) O W') ((K (F := F)).Otc_end d le_rfl).symm)) $$ HO
    imodintro
    isplitl [HO Hrest]
    · isplitl [HO]
      · iexists W'
        isplitr
        · ipureintro
          intro p hp
          rcases hW' p hp with h | h
          · exact h
          · rw [h, (K (F := F)).lev_none]
            exact Nat.zero_le _
        · iexact HO
      · iexact Hrest
    isplitl [Hh Hl Hr]
    · isplitl [Hh]; · iexact Hh
      isplitl [Hl]; · iexact Hl
      iexact Hr
    isplitl [Hb] <;> iassumption
  isplitl [Hb]; · iexact Hb
  isplitl [Hp Hr HO]
  · isplitl [Hp]; · iexact Hp
    isplitl [Hr]; · iexact Hr
    iexists W
    isplitr
    · ipureintro
      exact hW
    · iexact HO
  isplitr
  · iexact Hlv
  · iexact HG

/-- What the final memory holds on device `d`: both arguments as they were, and the normalized rows as the result. -/
def fq (d : Dev nD) (s' : Phys nD τ sig (Elt F)) : Prop :=
  s'.mem.mem (hLoc d) = m (hLoc d) ∧ s'.mem.mem (lLoc d) = m (lLoc d) ∧ s'.mem.mem (rLoc d) = Cert.Proof.Nrm.nrm (sums m d)

theorem hfin (d : Dev nD) (s' : Phys nD τ sig (Elt F)) : iprop(FIN m d ∗ SI s') ⊢ (⌜fq m d s'⌝ : sProp 𝕄) := by
  iintro ⟨⟨Hh, Hl, Hr⟩, HSI⟩
  ihave H := (persistent_entails_right (SI_pointsTo_agree (st := s') (ℓ := hLoc d) (I := Finset.univ) (q := fullShare) (f := m (hLoc d)))) $$ [HSI Hh]
  · isplitl [HSI] <;> iassumption
  icases H with ⟨%h1, HSI, -⟩
  ihave H := (persistent_entails_right (SI_pointsTo_agree (st := s') (ℓ := lLoc d) (I := Finset.univ) (q := fullShare) (f := m (lLoc d)))) $$ [HSI Hl]
  · isplitl [HSI] <;> iassumption
  icases H with ⟨%h2, HSI, -⟩
  ihave H := (SI_pointsTo_agree (st := s') (ℓ := rLoc d) (I := Finset.univ) (q := fullShare) (f := Cert.Proof.Nrm.nrm (sums m d))) $$ [HSI Hr]
  · isplitl [HSI] <;> iassumption
  icases H with %h3
  ipureintro
  exact ⟨funext fun i => h1 i (Finset.mem_univ i), funext fun i => h2 i (Finset.mem_univ i), funext fun i => h3 i (Finset.mem_univ i)⟩

/-- The run's outcome: `fq` on every device, and every semaphore back at zero. -/
def QC : PUnit × MemSt nD τ sig (Elt F) → Prop := fun r =>
  (∀ c : Dev nD, r.2.mem (hLoc c) = m (hLoc c) ∧ r.2.mem (lLoc c) = m (lLoc c) ∧ r.2.mem (rLoc c) = Cert.Proof.Nrm.nrm (sums m c))
    ∧ r.2.sem = fun _ => 0

/-- Every schedule of the kernel ends, and ends as `QC` says. -/
theorem run_main [∀ e, Nonempty (Elt F e)] :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m)
    (fun q _ => match q with | 0 => SparseCore.Cfg.VecSplit.of_plain (vecSplit m))
    m ρ main (G (F := F)) (FIN m) u₀ (sep_elim_left.trans (hu₀ m)) (hmain m ρ) (fq m) (hfin m) (QC m) (fun _ h hz => ⟨h, hz⟩)

end Cert.Proof.Run
end
-- ==== Proof.Frames.lean ====
/- The frames of the kernel, at the machine's floats and over the extended reals: both are the one run of Launch.lean. -/
module

public import proofs.«01_k».proof.Defs
public import proofs.«01_k».proof.Proof.Launch
public import proofs.«01_k».proof.Proof.Gen.Kernel

@[expose] public section

noncomputable section

namespace Cert.Proof.Frames

open Idealize.ShloMosaic Idealize.SL.Sem

/-- At the machine's floats a named constant is its printed literal. -/
@[reducible] local instance bitsNamed : Named Bits := ⟨fun _ _ _ b => Scalar.ofBits _ b⟩

theorem frame_ideal : Cert.quiescent_KernelIdeal := fun m ρ _ =>
  (θ_run Cert.KernelIdeal.defs _ _).mono (fun _ h => ⟨fun c => ⟨(h.1 c).1, (h.1 c).2.1⟩, h.2⟩)
    (Cert.Proof.Run.run_main (F := Ideal) m ρ)

/-- With that instance the two programs' bodies are one. -/
theorem defs₀_eq : (Cert.Kernel.defs₀ (F := Bits)) = (Cert.KernelIdeal.defs₀ (F := Bits)) := by
  funext p ℓ a
  match p, ℓ, a with
  | .scVector c s, 0, _ => rfl
  | .tc, 1, (t, s) => rfl
  | .tc, 0, _ => rfl
  | .scVector c s, 1, _ => rfl
  | .scScalar c, 0, _ => rfl
  | .scScalar c, 1, _ => rfl

theorem defs_eq : (Cert.Kernel.defs (F := Bits)) = (Cert.KernelIdeal.defs (F := Bits)) := by
  unfold Cert.Kernel.defs Cert.KernelIdeal.defs
  rw [defs₀_eq]
  rfl

/-- The machine-float kernel's frame: its program is the idealized one's with the literal in place of the name. -/
theorem frame_bits : Cert.quiescent_Kernel := by
  intro m ρ _
  rw [defs_eq]
  refine (θ_run (Cert.KernelIdeal.defs (F := Bits)) (Cert.KernelIdeal.threads (F := Bits)) _).mono (fun _ h => ?_)
    (Cert.Proof.Run.run_main (F := Bits) m ρ)
  exact ⟨fun c => ⟨(h.1 c).1, (h.1 c).2.1⟩, h.2⟩

end Cert.Proof.Frames
end
-- ==== Proof.Maths.lean ====
/- The mathematics that joins the kernel and the reference over the extended reals: what the kernel's trees of sums and the
   reference's running sum add up to, and that scaling before dividing by the clamped norm changes nothing. -/
module

public import proofs.«01_k».proof.Proof.Sums
public import Idealize.ShloMosaic.Lib.Routing.OpsOne
public import Idealize.ShloMosaic.PureOps.Ideal

@[expose] public section

noncomputable section

namespace Cert.Proof.Maths

open Idealize.ShloMosaic Idealize.ShloMosaic.ValueIdx Idealize.ShloMosaic.Routing
open Cert.Proof.Sums

/-! ## Sums of rows -/

/-- A balanced tree over the extended reals is the sum of its rows. -/
theorem treeOf_sum {α : Type} (f : ℕ → α → Ideal .f32) (j : α) : ∀ n o, (treeOf f n o j : EReal) = ∑ i ∈ Finset.range (2 ^ n), (f (o + i) j : EReal)
  | 0, o => by
    rw [treeOf, pow_zero, Finset.sum_range_one, Nat.add_zero]
  | n + 1, o => by
    rw [treeOf, Ideal.addf_def, treeOf_sum f j n o, treeOf_sum f j n (o + 2 ^ n), pow_succ, Nat.mul_two, Finset.sum_range_add]
    refine congrArg _ (Finset.sum_congr rfl fun i _ => ?_)
    rw [Nat.add_assoc]

/-- The running total over the extended reals is the sum of the rows so far. -/
theorem totalOf_sum {α : Type} (f : ℕ → α → Ideal .f32) (z : Ideal .f32) (b : ℕ) (j : α) :
    ∀ k, (totalOf f z b k j : EReal) = (z : EReal) + ∑ i ∈ Finset.range (32 * k), (f (b + i) j : EReal)
  | 0 => by
    rw [totalOf, Nat.mul_zero, Finset.sum_range_zero, add_zero]
  | k + 1 => by
    rw [totalOf, Ideal.addf_def, totalOf_sum f z b j k, treeOf_sum, Nat.mul_succ, Finset.sum_range_add, add_assoc]
    refine congrArg _ (congrArg _ (Finset.sum_congr rfl fun i _ => ?_))
    rw [Nat.add_assoc]

/-- A left fold that adds one term per position is the sum of the terms. -/
theorem foldl_add {N : ℕ} (g : Fin N → EReal) (z : EReal) : (List.finRange N).foldl (fun r n => r + g n) z = z + ∑ n, g n := by
  have h : ∀ (l : List (Fin N)) (z : EReal), l.foldl (fun r n => r + g n) z = z + (l.map g).sum := by
    intro l
    induction l with
    | nil => intro z; rw [List.foldl_nil, List.map_nil, List.sum_nil, add_zero]
    | cons a l ih => intro z; rw [List.foldl_cons, ih, List.map_cons, List.sum_cons, add_assoc]
  rw [h, ← List.sum_ofFn, List.ofFn_eq_map]

/-- The terms of a window that ends at row `j`, padded in front: the rows up to `j`. -/
theorem sum_window_rows (g : ℕ → EReal) (M j : ℕ) (hj : j ≤ M) :
    ∑ n ∈ Finset.range (M + 1), (if M ≤ j + n then g (j + n - M) else 0) = ∑ i ∈ Finset.range (j + 1), g i := by
  rw [← Finset.sum_filter]
  refine Finset.sum_nbij' (fun n => j + n - M) (fun i => i + M - j) ?_ ?_ ?_ ?_ ?_
  · intro n hn; rw [Finset.mem_filter, Finset.mem_range] at hn; rw [Finset.mem_range]; omega
  · intro i hi; rw [Finset.mem_range] at hi; rw [Finset.mem_filter, Finset.mem_range]; omega
  · intro n hn; rw [Finset.mem_filter, Finset.mem_range] at hn; omega
  · intro i hi; rw [Finset.mem_range] at hi; omega
  · intro n _; rfl

/-- A sum over the indices of a one-column matrix is a sum over its rows. -/
theorem sum_column (M : ℕ) (g : (shape2 (M + 1) 1).Idx → EReal) : ∑ w, g w = ∑ n : Fin (M + 1), g (ix2 n (0 : Fin 1)) := by
  refine Fintype.sum_bijective (fun w => (w 0 : Fin (M + 1))) ⟨fun a b hab => funext fun k => ?_, fun n => ⟨ix2 n (0 : Fin 1), rfl⟩⟩ _ _ fun w => congrArg g (funext fun k => ?_)
  · match k with
    | 0 => exact hab
    | 1 => exact Subsingleton.elim (α := Fin 1) _ _
  · match k with
    | 0 => rfl
    | 1 => exact Subsingleton.elim (α := Fin 1) _ _

/-- The running sum down the rows of a matrix, as `cumsum(axis=0)` prints: entry `(j, c)` is the sum of column `c`'s rows up to `j`. -/
theorem running_sum {M C : ℕ} (x : (shape2 (M + 1) C).Idx → EReal) (f : ℕ → ℕ → EReal)
    (hx : ∀ (i : Fin (M + 1)) (c : Fin C), x (ix2 i c) = f i.val c.val)
    (h : (shape2 (M + 1) C).ReduceWindows (![M + 1, 1] : Fin 2 → ℕ) ![1, 1] ![M, 0] ![0, 0] (shape2 (M + 1) C)) (j : Fin (M + 1)) (c : Fin C) :
    Ideal.hostReduceWindowAdd ![M + 1, 1] ![1, 1] ![M, 0] ![0, 0] h x 0 (ix2 j c) = ∑ i ∈ Finset.range (j.val + 1), f i c.val := by
  have hj := j.isLt
  have hc := c.isLt
  unfold Ideal.hostReduceWindowAdd Host.reduceWindow
  refine (foldl_add _ 0).trans ((zero_add _).trans ?_)
  refine (Equiv.sum_comp (shape2 (M + 1) 1).rowMajor.symm fun w : (shape2 (M + 1) 1).Idx =>
    @dite EReal (∀ a : Fin 2, (![M, 0] : Fin 2 → ℕ) a ≤ (ix2 j c a).val * (![1, 1] : Fin 2 → ℕ) a + (w a).val
        ∧ (ix2 j c a).val * (![1, 1] : Fin 2 → ℕ) a + (w a).val - (![M, 0] : Fin 2 → ℕ) a < (shape2 (M + 1) C).size a)
      (Nat.decidableForallFin _)
      (fun hin => x fun a => ⟨(ix2 j c a).val * (![1, 1] : Fin 2 → ℕ) a + (w a).val - (![M, 0] : Fin 2 → ℕ) a, (hin a).2⟩)
      (fun _ => 0)).trans ((sum_column M _).trans ?_)
  refine Eq.trans ?_ (sum_window_rows (fun i => f i c.val) M j.val (by omega))
  rw [← Fin.sum_univ_eq_sum_range (fun k => if M ≤ j.val + k then f (j.val + k - M) c.val else 0) (M + 1)]
  refine Finset.sum_congr rfl fun n _ => ?_
  have hn := n.isLt
  by_cases hle : M ≤ j.val + n.val
  · refine Eq.trans (dif_pos ?_) (Eq.trans ?_ (if_pos hle).symm)
    · refine Fin.forall_fin_two.2 ⟨?_, ?_⟩
      · show M ≤ j.val * 1 + n.val ∧ j.val * 1 + n.val - M < M + 1
        omega
      · show 0 ≤ c.val * 1 + 0 ∧ c.val * 1 + 0 - 0 < C
        omega
    · refine Eq.trans (congrArg x (funext fun a => ?_)) (hx ⟨j.val + n.val - M, by omega⟩ c)
      match a with
      | 0 => exact Fin.ext (show j.val * 1 + n.val - M = j.val + n.val - M by rw [Nat.mul_one])
      | 1 => exact Fin.ext (show c.val * 1 + 0 - 0 = c.val by omega)
  · refine Eq.trans (dif_neg fun hin => hle ?_) (if_neg hle).symm
    have h0 : M ≤ j.val * 1 + n.val := (hin 0).1
    omega

/-- The same, the window's height and the padding each a number of its own. -/
theorem running_sum_of {R M C : ℕ} (hR : M + 1 = R) (x : (shape2 R C).Idx → EReal) (f : ℕ → ℕ → EReal)
    (hx : ∀ (i : Fin R) (c : Fin C), x (ix2 i c) = f i.val c.val)
    (h : (shape2 R C).ReduceWindows (![R, 1] : Fin 2 → ℕ) ![1, 1] ![M, 0] ![0, 0] (shape2 R C)) (j : Fin R) (c : Fin C) :
    Ideal.hostReduceWindowAdd ![R, 1] ![1, 1] ![M, 0] ![0, 0] h x 0 (ix2 j c) = ∑ i ∈ Finset.range (j.val + 1), f i c.val := by
  subst hR
  exact running_sum x f hx h j c

/-- The sum of the rows `s … s + n`, as a difference of running sums and the first row. -/
theorem sum_between (x : ℕ → ℝ) (s n : ℕ) :
    (∑ i ∈ Finset.range (s + n + 1), x i) - (∑ i ∈ Finset.range (s + 1), x i) + x s = ∑ i ∈ Finset.range (n + 1), x (s + i) := by
  rw [Nat.add_assoc, Finset.sum_range_add, Finset.sum_range_succ _ s]
  ring

/-- A finite sum of reals, read as an extended real. -/
theorem coe_sum {ι : Type} (s : Finset ι) (g : ι → ℝ) : ((∑ i ∈ s, g i : ℝ) : EReal) = ∑ i ∈ s, (g i : EReal) := by
  classical
  induction s using Finset.induction_on with
  | empty => rw [Finset.sum_empty, Finset.sum_empty, EReal.coe_zero]
  | insert a s ha ih => rw [Finset.sum_insert ha, Finset.sum_insert ha, EReal.coe_add, ih]

/-! ## The clamped norm -/

/-- Dividing by `n` before dividing by the norm clamped at `e` is dividing by the norm clamped at `n * e`. -/
theorem scaled (p N n e : ℝ) (hN : 0 ≤ N) (hn : 0 < n) (he : 0 < e) :
    p * (Real.sqrt (max N ((n * e) ^ 2)))⁻¹ = p * (1 / n) * (1 / max (Real.sqrt (N * (1 / n) ^ 2)) e) := by
  have h1 : Real.sqrt (max N ((n * e) ^ 2)) = max (Real.sqrt N) (n * e) := by
    rw [(show Monotone Real.sqrt from fun _ _ h => Real.sqrt_le_sqrt h).map_max, Real.sqrt_sq (mul_nonneg hn.le he.le)]
  have h2 : Real.sqrt (N * (1 / n) ^ 2) = Real.sqrt N * (1 / n) := by
    rw [Real.sqrt_mul hN, Real.sqrt_sq (by positivity)]
  have h3 : max (Real.sqrt N * (1 / n)) e = max (Real.sqrt N) (n * e) * (1 / n) := by
    rw [max_mul_of_nonneg _ _ (by positivity : (0 : ℝ) ≤ 1 / n)]
    congr 1
    field_simp
  rw [h1, h2, h3]
  have hm : 0 < max (Real.sqrt N) (n * e) := lt_of_lt_of_le (mul_pos hn he) (le_max_right _ _)
  field_simp

end Cert.Proof.Maths
end
-- ==== Proof.Reference.lean ====
/- The reference read at an entry, over the extended reals: prompts of two thousand and forty-eight rows each, every row finite. -/
module

public import proofs.«01_k».proof.Proof.Maths
public import proofs.«01_k».proof.Proof.Gen.ReferenceIdeal.Run
public import Idealize.ShloMosaic.Lib.Routing.OpsOne
public import Idealize.ShloMosaic.Lib.Pointwise

@[expose] public section

set_option maxRecDepth 16384 -- the reference's result is one term of some two hundred operations

noncomputable section

namespace Cert.Proof.Ref

open Cert.ReferenceIdeal Cert.ReferenceIdeal.Gen
open Idealize.ShloMosaic hiding ix0 ix1 ix2 ix3
open Idealize.ShloMosaic.ValueIdx Idealize.ShloMosaic.Routing Idealize.SL.Sem
open Cert.Proof.Maths

/-! ## The reference's result, by its parts -/

/-- Every prompt's first row. -/
def firstRow (l : IVec S16 32) : IVec S16 32 :=
  concatenate S16 0 [⟨S1, (broadcastInDim S1 ![] bcast_S_S1 (constantI S_ 32 0#32))⟩,
    ⟨S15, (Host.reduceWindow IntOp.addi ![15] ![1] ![14] ![0] (extractStridedSlice S15 ![0] l slices_S16_S15_0)
      (broadcastInDim S_ ![] bcast_S_S_ (constantI S_ 32 0#32)) reduceWindows_S15_S15_w15s1p14_0 h_S_)⟩] concatenates_S1_S15_S16_d0

/-- Every prompt's last row. -/
def lastRow (l : IVec S16 32) : IVec S16 32 :=
  subi (Host.reduceWindow IntOp.addi ![16] ![1] ![15] ![0] l (broadcastInDim S_ ![] bcast_S_S_ (constantI S_ 32 0#32))
    reduceWindows_S16_S16_w16s1p15_0 h_S_) (broadcastInDim S16 ![] bcast_S_S16 (constantI S_ 32 1#32))

/-- Row numbers as a gather takes them, the negative ones counted from the end. -/
def wrapped (i : IVec S16 32) : IVec S16x1 32 :=
  broadcastInDim S16x1 ![0] bcast_S16_S16x1_0 (select (cmpi .slt i (broadcastInDim S16 ![] bcast_S_S16 (constantI S_ 32 0#32)))
    (addi i (broadcastInDim S16 ![] bcast_S_S16 (constantI S_ 32 32768#32))) i)

/-- The named rows of an array. -/
def rowsAt {α : Type} (x : S32768x1024.Idx → α) (i : IVec S16 32) : S16x1024.Idx → α :=
  Host.gather gather_S32768x1024_S16x1_S16x1024_1_0_n_n_0_1_11024 x (wrapped i)

variable {F : FTy → Type} [FloatOps F]

/-- The running sum of the rows. -/
def running (x : FVec F S32768x1024 .f32) : FVec F S32768x1024 .f32 :=
  Host.reduceWindowAdd ![32768, 1] ![1, 1] ![32767, 0] ![0, 0] x (broadcastInDim S_ ![] bcast_S_S_ (constant S_ .f32 0x00000000#32))
    reduceWindows_S32768x1024_S32768x1024_w32768s1p32767_0_w1s1p0_0 h_S_

/-- The sum of every prompt's rows. -/
def summed (x : FVec F S32768x1024 .f32) (l : IVec S16 32) : FVec F S16x1024 .f32 :=
  addf (subf (rowsAt (running x) (lastRow l)) (rowsAt (running x) (firstRow l))) (rowsAt x (firstRow l))

/-- The mean of every prompt's rows. -/
def mean (x : FVec F S32768x1024 .f32) (l : IVec S16 32) : FVec F S16x1024 .f32 :=
  Host.divf (summed x l) (broadcastInDim S16x1024 ![0, 1] bcast_S16x1_S16x1024_0_1 (sitofp .f32 (broadcastInDim S16x1 ![0] bcast_S16_S16x1_0 l)))

/-- Rows divided by their norms, a norm below the bound counting as the bound. -/
def normed (v : FVec F S16x1024 .f32) : FVec F S16x1024 .f32 :=
  Host.divf v (broadcastInDim S16x1024 ![0, 1] bcast_S16x1_S16x1024_0_1 (maximumf (Host.sqrt (broadcastInDim S16x1 ![0] bcast_S16_S16x1_0
    (Host.reduceAdd (mulf v v) (constant S_ .f32 0x00000000#32) reducesTo_S16x1024_S16_d1 h_S_)))
    (broadcastInDim S16x1 ![] bcast_S_S16x1 (constant S_ .f32 0x2B8CBCCC#32))))

theorem result_eq (m : (ℓ : Loc nD τ sig) → Buf (Elt F) ℓ) (c : Dev nD) :
    Cert.ReferenceIdeal.Value.res_main_v39 m c
      = normed (mean (m ((c.tc : Thread nD τ).loc main_arg0)) (m ((c.tc : Thread nD τ).loc main_arg1))) := rfl

/-! ## Which rows -/

/-- Every prompt has two thousand and forty-eight rows. -/
def even : IVec S16 32 := fun _ => 2048#32

theorem firstRow_even : ∀ b : Fin 16, firstRow even (ix1 b) = BitVec.ofNat 32 (2048 * b.val) := by decide +kernel
theorem lastRow_even : ∀ b : Fin 16, lastRow even (ix1 b) = BitVec.ofNat 32 (2048 * b.val + 2047) := by decide +kernel

theorem wrapped_apply (i : IVec S16 32) (b : Fin 16) (n : ℕ) (hn : n < 32768) (h : i (ix1 b) = BitVec.ofNat 32 n) :
    wrapped i (ix2 b (0 : Fin 1)) = BitVec.ofNat 32 n := by
  have e : wrapped i (ix2 b (0 : Fin 1)) = (if IntOp.cmpi .slt (i (ix1 b)) 0#32 = 1#1 then IntOp.addi (i (ix1 b)) 32768#32 else i (ix1 b)) := by
    unfold wrapped
    pointwise
    rw [show (Idealize.ShloMosaic.ix1 (ix2 b (0 : Fin 1) 0) : S16.Idx) = ix1 b from funext fun a => match a with | 0 => rfl]
    rfl
  rw [e, h, if_neg]
  have hi : (BitVec.ofNat 32 n).toInt = (n : ℤ) := by
    rw [BitVec.toInt_eq_toNat_cond, BitVec.toNat_ofNat]
    omega
  simp only [IntOp.cmpi, BitVec.slt, hi, BitVec.toInt_zero]
  rw [show decide ((n : ℤ) < 0) = false from decide_eq_false (by omega)]
  decide

theorem rowsAt_apply {α : Type} (x : S32768x1024.Idx → α) (i : IVec S16 32) (b : Fin 16) (j : Fin 1024) (n : Fin 32768)
    (h : i (ix1 b) = BitVec.ofNat 32 n.val) : rowsAt x i (ix2 b j) = x (ix2 n j) :=
  gather_row gather_S32768x1024_S16x1_S16x1024_1_0_n_n_0_1_11024 rfl rfl rfl rfl rfl x (wrapped i) b j n
    (wrapped_apply i b n.val n.isLt h) (by norm_num)

/-! ## Over the extended reals, the rows finite -/

section Values

variable (x : FVec Ideal S32768x1024 .f32) (r : ℕ → ℕ → ℝ)

/-- A prompt's column sum. -/
def promptSum (b j : ℕ) : ℝ := ∑ i ∈ Finset.range 2048, r (2048 * b + i) j

/-- The bound that the reference puts on a norm. -/
def bound : ℝ := 9223372 / 9223372036854775808

theorem bound_eq : Ideal.ofBits .f32 0x2B8CBCCC#32 = ((bound : ℝ) : EReal) := by
  simp [Ideal.ofBits, Ideal.ieee, bound, -EReal.coe_mul]
  norm_num

variable (hx : ∀ (i : Fin 32768) (c : Fin 1024), (x (ix2 i c) : EReal) = ((r i.val c.val : ℝ) : EReal))
include hx

theorem running_apply (i : Fin 32768) (j : Fin 1024) :
    (running x (ix2 i j) : EReal) = ((∑ k ∈ Finset.range (i.val + 1), r k j.val : ℝ) : EReal) := by
  have h := running_sum_of (R := 32768) (M := 32767) (C := 1024) rfl x (fun a c => ((r a c : ℝ) : EReal)) hx
    reduceWindows_S32768x1024_S32768x1024_w32768s1p32767_0_w1s1p0_0 i j
  rw [coe_sum, ← h]
  unfold running Host.reduceWindowAdd
  rw [Ideal.hostReduceWindowAdd_def]
  exact congrFun (congrArg (Ideal.hostReduceWindowAdd _ _ _ _ _ x) Ideal.ofBits_zero_f32) (ix2 i j)

theorem summed_apply (b : Fin 16) (j : Fin 1024) : (summed x even (ix2 b j) : EReal) = ((promptSum r b.val j.val : ℝ) : EReal) := by
  have hb := b.isLt
  have e1 := rowsAt_apply (running x) (lastRow even) b j ⟨2048 * b.val + 2047, by omega⟩ (lastRow_even b)
  have e2 := rowsAt_apply (running x) (firstRow even) b j ⟨2048 * b.val, by omega⟩ (firstRow_even b)
  have e3 := rowsAt_apply x (firstRow even) b j ⟨2048 * b.val, by omega⟩ (firstRow_even b)
  show (rowsAt (running x) (lastRow even) (ix2 b j) : EReal) - (rowsAt (running x) (firstRow even) (ix2 b j) : EReal)
    + (rowsAt x (firstRow even) (ix2 b j) : EReal) = _
  rw [e1, e2, e3, running_apply x r hx, running_apply x r hx, hx, ← EReal.coe_sub, ← EReal.coe_add]
  exact congrArg _ (sum_between (fun i => r i j.val) (2048 * b.val) 2047)

theorem mean_apply (b : Fin 16) (j : Fin 1024) :
    (mean x even (ix2 b j) : EReal) = ((promptSum r b.val j.val * (1 / 2048) : ℝ) : EReal) := by
  have e : (mean x even (ix2 b j) : EReal) = Ideal.div (summed x even (ix2 b j)) (((2048 : ℝ)) : EReal) := by
    unfold mean even
    pointwise
    refine congrArg _ (show (((2048#32 : BitVec 32).toInt : ℝ) : EReal) = _ from ?_)
    rw [show (2048#32 : BitVec 32).toInt = 2048 by decide]
    norm_num
  rw [e, Ideal.div_coe (by norm_num), summed_apply x r hx, ← EReal.coe_mul]

omit hx in
theorem normed_apply (v : FVec Ideal S16x1024 .f32) (p : ℕ → ℕ → ℝ)
    (hv : ∀ (b : Fin 16) (j : Fin 1024), (v (ix2 b j) : EReal) = ((p b.val j.val : ℝ) : EReal)) (b : Fin 16) (j : Fin 1024) :
    (normed v (ix2 b j) : EReal)
      = ((p b.val j.val * (1 / max (Real.sqrt (∑ k : Fin 1024, p b.val k.val * p b.val k.val)) bound) : ℝ) : EReal) := by
  have e : (normed v (ix2 b j) : EReal)
      = Ideal.div (v (ix2 b j)) (max (Ideal.sqrt (∑ k : Fin 1024, (v (ix2 b k) : EReal) * (v (ix2 b k) : EReal))) (Ideal.ofBits .f32 0x2B8CBCCC#32)) := by
    unfold normed
    pointwise
    have hk : ∀ k : Fin 1024, (Idealize.ShloMosaic.ix2 (ix2 b j 0) k : S16x1024.Idx) = ix2 b k := fun k =>
      funext fun a => match a with | 0 => rfl | 1 => rfl
    simp only [hk]
  have hs : (∑ k : Fin 1024, (v (ix2 b k) : EReal) * (v (ix2 b k) : EReal)) = ((∑ k : Fin 1024, p b.val k.val * p b.val k.val : ℝ) : EReal) := by
    rw [coe_sum]
    refine Finset.sum_congr rfl fun k _ => ?_
    rw [hv, EReal.coe_mul]
  have h0 : 0 ≤ ∑ k : Fin 1024, p b.val k.val * p b.val k.val := Finset.sum_nonneg fun k _ => mul_self_nonneg _
  have hb : 0 < bound := by unfold bound; norm_num
  rw [e, hs, Ideal.sqrt_coe, if_neg (not_lt.2 h0), bound_eq, ← EReal.coe_strictMono.monotone.map_max, Ideal.div_coe, hv, ← EReal.coe_mul]
  exact (lt_of_lt_of_le hb (le_max_right _ _)).ne'

end Values

end Cert.Proof.Ref
end
-- ==== Proof.Value.lean ====
/- The kernel's result at an entry, over the extended reals, and its equality with the reference's. -/
module

public import proofs.«01_k».proof.Defs
public import proofs.«01_k».proof.Proof.Launch
public import proofs.«01_k».proof.Proof.Reference
public import proofs.«01_k».proof.Proof.Gen.Pre_pooled_batch
public import Idealize.ShloMosaic.Lib.ReduceAll
public import Idealize.ShloMosaic.Lib.StableHlo.Predicate
public import Idealize.ShloMosaic.Lib.Pointwise

@[expose] public section

set_option maxRecDepth 16384 -- the reference's result is one term of some two hundred operations

noncomputable section

namespace Cert.Proof.Val

open Cert.KernelIdeal Cert.KernelIdeal.Gen
open Idealize.ShloMosaic hiding ix0 ix1 ix2 ix3
open Idealize.ShloMosaic.ValueIdx Idealize.SL.Sem
open Cert.Proof.Maths Cert.Proof.Ref Cert.Proof.Nrm Cert.Proof.Tile

/-! ## The kernel's sums -/

section Sums

variable (x : FVec Ideal S32768x1024 .f32) (r : ℕ → ℕ → ℝ)
variable (hx : ∀ (i : Fin 32768) (c : Fin 1024), (x (ix2 i c) : EReal) = ((r i.val c.val : ℝ) : EReal))
include hx

theorem vout_apply (b : Fin 16) (h : Fin 2) (j : Fin 1024) :
    (vout x (ix3 b h j) : EReal) = ((∑ i ∈ Finset.range 1024, r (1024 * (2 * b.val + h.val) + i) j.val : ℝ) : EReal) := by
  have hb := b.isLt
  have hh := h.isLt
  have e := totalOf_sum (hsRow (F := Ideal) x) zf (1024 * (2 * b.val + h.val)) j 32
  refine e.trans ?_
  rw [show (zf (F := Ideal) : EReal) = 0 from Ideal.ofBits_zero_f32, zero_add, coe_sum]
  refine Finset.sum_congr rfl fun i hi => ?_
  rw [Finset.mem_range] at hi
  refine (hx (Fin.ofNat 32768 (1024 * (2 * b.val + h.val) + i)) j).trans ?_
  rw [Fin.val_ofNat, Nat.mod_eq_of_lt (by omega)]

theorem halves_apply (b : Fin 16) (j : Fin 1024) :
    (addf (half (vout x) 0) (half (vout x) 1) (ix2 b j) : EReal) = ((promptSum r b.val j.val : ℝ) : EReal) := by
  show (vout x (ix3 b 0 j) : EReal) + (vout x (ix3 b 1 j) : EReal) = _
  rw [vout_apply x r hx, vout_apply x r hx, ← EReal.coe_add]
  refine congrArg _ ?_
  rw [promptSum, show 2048 = 1024 + 1024 from rfl, Finset.sum_range_add]
  refine congrArg₂ _ (Finset.sum_congr rfl fun i _ => ?_) (Finset.sum_congr rfl fun i _ => ?_)
  · exact congrArg (fun n => r n j.val) (by show 1024 * (2 * b.val + 0) + i = _; omega)
  · exact congrArg (fun n => r n j.val) (by show 1024 * (2 * b.val + 1) + i = _; omega)

end Sums

/-! ## The kernel's rows divided by their norms -/

theorem eps2_eq : (Named.named (F := Ideal) (φ := .f32) κ "eps2" 0x229ABE15#32 : EReal) = (((2048 * bound) ^ 2 : ℝ) : EReal) := by
  refine (IdealRules.named_const.ideal_named_scalar _ _ _ _ rfl).trans ?_
  refine congrArg _ ?_
  unfold bound
  norm_num

theorem unitRows_apply (v : FVec Ideal S16x1024 .f32) (p : ℕ → ℕ → ℝ)
    (hv : ∀ (b : Fin 16) (j : Fin 1024), (v (ix2 b j) : EReal) = ((p b.val j.val : ℝ) : EReal)) (b : Fin 16) (j : Fin 1024) :
    (unitRows v (ix2 b j) : EReal)
      = ((p b.val j.val * (Real.sqrt (max (∑ k : Fin 1024, p b.val k.val * p b.val k.val) ((2048 * bound) ^ 2)))⁻¹ : ℝ) : EReal) := by
  have e : (unitRows v (ix2 b j) : EReal)
      = (v (ix2 b j) : EReal) * Ideal.rsqrt (max (∑ k : Fin 1024, (v (ix2 b k) : EReal) * (v (ix2 b k) : EReal))
          (Named.named (F := Ideal) (φ := .f32) κ "eps2" 0x229ABE15#32)) := by
    unfold unitRows
    pointwise
    have hk : ∀ k : Fin 1024, (Idealize.ShloMosaic.ix2 (ix2 b j 0) k : S16x1024.Idx) = ix2 b k := fun k =>
      funext fun a => match a with | 0 => rfl | 1 => rfl
    simp only [hk]
  have hs : (∑ k : Fin 1024, (v (ix2 b k) : EReal) * (v (ix2 b k) : EReal)) = ((∑ k : Fin 1024, p b.val k.val * p b.val k.val : ℝ) : EReal) := by
    rw [coe_sum]
    refine Finset.sum_congr rfl fun k _ => ?_
    rw [hv, EReal.coe_mul]
  have hb : 0 < (2048 * bound) ^ 2 := by unfold bound; norm_num
  have hm := lt_of_lt_of_le hb (le_max_right (∑ k : Fin 1024, p b.val k.val * p b.val k.val) ((2048 * bound) ^ 2))
  rw [e, hs, eps2_eq, ← EReal.coe_strictMono.monotone.map_max, Ideal.rsqrt_coe, if_neg (not_lt.2 hm.le), if_neg hm.ne', hv, ← EReal.coe_mul]

/-! ## The two results are equal -/

theorem result_same (x : FVec Ideal S32768x1024 .f32) (r : ℕ → ℕ → ℝ)
    (hx : ∀ (i : Fin 32768) (c : Fin 1024), (x (ix2 i c) : EReal) = ((r i.val c.val : ℝ) : EReal)) :
    normed (mean x even) = nrm (vout x) := by
  funext y
  have hy : y = ix2 (y 0) (y 1) := funext fun a => match a with | 0 => rfl | 1 => rfl
  rw [hy]
  refine (normed_apply (mean x even) (fun b j => promptSum r b j * (1 / 2048)) (mean_apply x r hx) (y 0) (y 1)).trans ?_
  refine Eq.trans ?_ (unitRows_apply _ (promptSum r) (halves_apply x r hx) (y 0) (y 1)).symm
  refine congrArg _ ?_
  rw [scaled (promptSum r (y 0).val (y 1).val) _ 2048 bound (Finset.sum_nonneg fun k _ => mul_self_nonneg _) (by norm_num) (by unfold bound; norm_num),
    Finset.sum_mul]
  refine congrArg (fun s => promptSum r (y 0).val (y 1).val * (1 / 2048) * (1 / max (Real.sqrt s) bound)) ?_
  refine Finset.sum_congr rfl fun k _ => ?_
  ring

/-! ## What the precondition says -/

/-- Every prompt has two thousand and forty-eight rows, and no entry is infinite. -/
theorem pre_reads (x : FVec Ideal S32768x1024 .f32) (l : IVec S16 32)
    (h : Cert.Pre_pooled_batch.fn (F := Ideal) x l = fun _ => 1#1) : l = even ∧ ∀ i, (x i : EReal) ≠ ⊥ ∧ (x i : EReal) ≠ ⊤ := by
  haveI : Subsingleton Cert.Pre_pooled_batch.S_.Idx := ⟨fun a b => funext fun k => k.elim0⟩
  have h0 := congrFun h (fun k => k.elim0)
  obtain ⟨h1, h2⟩ := IntOp.andi_eq_one.1 h0
  refine ⟨funext fun i => ?_, fun i => ?_⟩
  · exact StableHlo.Predicate.cmpi_eq_iff.1 (Host.reduce_andi_all _ _ _ _ _ h1 i)
  · have hi := Host.reduce_andi_all _ _ _ _ _ h2 i
    have hlt : max (x i : EReal) (-(x i : EReal)) < Ideal.ofBits .f32 0x7F800000#32 :=
      of_decide_eq_true ((StableHlo.Predicate.ofBool_eq_one_iff _).1 hi)
    have hlt' : max (x i : EReal) (-(x i : EReal)) < ⊤ := lt_of_lt_of_le hlt le_top
    refine ⟨fun hb => ?_, fun ht => ?_⟩
    · rw [hb] at hlt'
      exact absurd ((le_max_right _ _).trans_lt hlt') (by simp)
    · rw [ht] at hlt'
      exact absurd ((le_max_left _ _).trans_lt hlt') (by simp)

/-! ## The value claim -/

theorem same_of_pre (x : FVec Ideal S32768x1024 .f32) (l : IVec S16 32)
    (h : Cert.Pre_pooled_batch.fn (F := Ideal) x l = fun _ => 1#1) : normed (mean x l) = nrm (vout x) := by
  obtain ⟨hl, hf⟩ := pre_reads x l h
  rw [hl]
  refine result_same x (fun a c => (x (ix2 (Fin.ofNat 32768 a) (Fin.ofNat 1024 c)) : EReal).toReal) fun i c => ?_
  have e1 : Fin.ofNat 32768 i.val = i := Fin.ext (Nat.mod_eq_of_lt i.isLt)
  have e2 : Fin.ofNat 1024 c.val = c := Fin.ext (Nat.mod_eq_of_lt c.isLt)
  show (x (ix2 i c) : EReal) = ((x (ix2 (Fin.ofNat 32768 i.val) (Fin.ofNat 1024 c.val)) : EReal).toReal : EReal)
  rw [e1, e2]
  exact (EReal.coe_toReal (hf _).2 (hf _).1).symm

theorem algebraic : Cert.algebraic_KernelIdeal_ReferenceIdeal_pre_pooled_batch := by
  intro m g m' g' hpre hargs
  refine ⟨fun c => nrm (F := Ideal) (Cert.Proof.Run.sums m c), ?_, ?_⟩
  · exact (θ_run Cert.KernelIdeal.defs _ _).mono (fun r h c => ⟨(h.1 c).2.2, (h.1 c).1, (h.1 c).2.1⟩)
      (Cert.Proof.Run.run_main (F := Ideal) m g)
  · refine (θ_run Cert.ReferenceIdeal.defs _ _).mono (fun r h c => ⟨(h c).1.trans ?_, (h c).2⟩)
      (Cert.ReferenceIdeal.Value.run (F := Ideal) m' g')
    rw [result_eq, (hargs c).1, (hargs c).2]
    exact same_of_pre _ _ (hpre c)

end Cert.Proof.Val
end
-- ==== Proof.lean ====
module

public import proofs.«01_k».proof.Defs
public import proofs.«01_k».proof.Proof.Frames
public import proofs.«01_k».proof.Proof.Value
public import proofs.«01_k».proof.Proof.Gen.Kernel
public import proofs.«01_k».proof.Proof.Gen.Kernel.Launch
public import proofs.«01_k».proof.Proof.Gen.KernelIdeal
public import proofs.«01_k».proof.Proof.Gen.KernelIdeal.Launch
public import proofs.«01_k».proof.Proof.Gen.ReferenceIdeal
public import proofs.«01_k».proof.Proof.Gen.ReferenceIdeal.Run
public import proofs.«01_k».proof.Proof.Gen.Pre_pooled_batch

@[expose] public section

noncomputable section

namespace Cert.Proof

open Idealize.ShloMosaic Idealize.SL.Sem

/-- The reference's frame: its generated run at the arguments, and no semaphore to leave raised. -/
theorem frame_ref : Cert.quiescent_ReferenceIdeal := fun m ρ _ =>
  (θ_run Cert.ReferenceIdeal.defs _ _).mono
    (fun r h => ⟨fun c => (h c).2, Idealize.ShloMosaic.sem_eq_zero_of_no_sems (by decide) r.2⟩)
    (Cert.ReferenceIdeal.Value.run (F := Ideal) m ρ)

theorem claim : Cert.Claim :=
  ⟨Cert.Kernel.Gen.facts, Cert.KernelIdeal.Gen.facts, Cert.ReferenceIdeal.Gen.facts, Cert.Pre_pooled_batch.Gen.facts,
    Frames.frame_bits, Frames.frame_ideal, fun m ρ _ => Frames.frame_ideal m ρ trivial,
    frame_ref, fun m ρ _ => frame_ref m ρ trivial,
    IdealRules.named_const.statement Cert.KernelIdeal.κ "eps2" .f32 0x229ABE15#32
      ((5316911940649 / 1267650600228229401496703205376 : ℝ) : EReal) rfl,
    Val.algebraic⟩

end Cert.Proof

end
